-- ==== Defs.lean ====
def Pre_Kernel [hPre_sizes_ok : Cert.Pre_sizes_ok.Facts] (m : (ℓ : Loc Cert.Kernel.nD Cert.Kernel.τ Cert.Kernel.sig) → Buf (Elt Bits) ℓ) : Prop :=
  ∀ c : Dev Cert.Kernel.nD,
    (Cert.Pre_sizes_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_ok : Cert.Pre_sizes_ok.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_sizes_ok : Cert.Pre_sizes_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_ok : Cert.Pre_sizes_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_ok : Cert.Pre_sizes_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_sizes_ok : Cert.Pre_sizes_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_ok : Cert.Pre_sizes_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_ok : Cert.Pre_sizes_ok.Facts),
    quiescent_Kernel (hKernel := hKernel) (hPre_sizes_ok := hPre_sizes_ok)
    ∧ quiescent_KernelIdeal (hKernelIdeal := hKernelIdeal) (hPre_sizes_ok := hPre_sizes_ok)
    ∧ quiescent_ReferenceIdeal (hReferenceIdeal := hReferenceIdeal) (hPre_sizes_ok := hPre_sizes_ok)
    ∧ preserves_Kernel_KernelIdeal
    ∧ algebraic_KernelIdeal_ReferenceIdeal (hKernelIdeal := hKernelIdeal) (hReferenceIdeal := hReferenceIdeal) (hPre_sizes_ok := hPre_sizes_ok)
-- ==== Pre_sizes_ok.lean ====
abbrev S65536x4096 : Shape := ⟨2, ![65536, 4096]⟩
abbrev S65536 : Shape := ⟨1, ![65536]⟩
abbrev S16x4096x3072 : Shape := ⟨3, ![16, 4096, 3072]⟩
abbrev S16x3072 : Shape := ⟨2, ![16, 3072]⟩
abbrev S16 : Shape := ⟨1, ![16]⟩
abbrev S_ : Shape := ⟨0, ![]⟩
abbrev S1 : Shape := ⟨1, ![1]⟩

class Facts : Prop where
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  bcast_S_S16 : S_.BroadcastsInDim S16 (![] : Fin 0 → Fin S16.rank)
  slices_S16_S1_15 : S16.Slices ![15] S1
  shapeCasts_S1_S_ : S1.ShapeCasts S_

variable [Facts]

def fn_cumsum_0 {F : FTy → Type} [FloatOps F] (arg0 : IVec S16 32) : IVec S16 32 :=
  let c : IVec S_ 32 := constantI S_ 32 0#32
  let v0 : IVec S_ 32 := broadcastInDim S_ ![] bcast_S_S_ c
  let v1 : IVec S16 32 := (fun x v => Host.reduceWindow IntOp.addi ![16] ![1] ![15] ![0] x v reduceWindows_S16_S16_w16s1p15_0 h_S_) arg0 v0
  v1

def fn_cumsum {F : FTy → Type} [FloatOps F] (arg0 : IVec S16 32) : IVec S16 32 :=
  let v0 : IVec S16 32 := fn_cumsum_0 (F := F) arg0
  v0

def fn {F : FTy → Type} [FloatOps F] (main_arg0 : FVec F S65536x4096 .fp8e4m3) (main_arg1 : FVec F S65536 .f32) (main_arg2 : FVec F S16x4096x3072 .fp8e4m3) (main_arg3 : FVec F S16x3072 .f32) (main_arg4 : IVec S16 32) : IVec S16 1 :=
  let main_v0 : IVec S16 32 := fn_cumsum (F := F) main_arg4
  let main_c : IVec S_ 32 := constantI S_ 32 0#32
  let main_v1 : IVec S16 32 := broadcastInDim S16 ![] bcast_S_S16 main_c
  let main_v2 : IVec S16 1 := cmpi .sge main_arg4 main_v1
  let main_c_0 : IVec S_ 32 := constantI S_ 32 65536#32
  let main_v3 : IVec S16 32 := broadcastInDim S16 ![] bcast_S_S16 main_c_0
  let main_v4 : IVec S16 1 := cmpi .sle main_arg4 main_v3
  let main_v5 : IVec S16 1 := andi main_v2 main_v4
  let main_v6 : IVec S1 32 := (extractStridedSlice S1 ![15] · slices_S16_S1_15) main_v0
  let main_v7 : IVec S_ 32 := shapeCast S_ main_v6 shapeCasts_S1_S_
  let main_c_1 : IVec S_ 32 := constantI S_ 32 65536#32
  let main_v8 : IVec S_ 1 := cmpi .eq main_v7 main_c_1
  let main_v9 : IVec S16 1 := broadcastInDim S16 ![] bcast_S_S16 main_v8
  let main_v10 : IVec S16 1 := andi main_v5 main_v9
  main_v10
-- ==== Kernel.lean ====
abbrev S65536x4096 : Shape := ⟨2, ![65536, 4096]⟩
abbrev S65536 : Shape := ⟨1, ![65536]⟩
abbrev S16x4096x3072 : Shape := ⟨3, ![16, 4096, 3072]⟩
abbrev S16x3072 : Shape := ⟨2, ![16, 3072]⟩
abbrev S16 : Shape := ⟨1, ![16]⟩
abbrev S_ : Shape := ⟨0, ![]⟩
abbrev S143 : Shape := ⟨1, ![143]⟩
abbrev S143x1 : Shape := ⟨2, ![143, 1]⟩
abbrev S1x16 : Shape := ⟨2, ![1, 16]⟩
abbrev S143x16 : Shape := ⟨2, ![143, 16]⟩
abbrev S1 : Shape := ⟨1, ![1]⟩
abbrev S142 : Shape := ⟨1, ![142]⟩
abbrev S1x143 : Shape := ⟨2, ![1, 143]⟩
abbrev S5x143 : Shape := ⟨2, ![5, 143]⟩
abbrev S65536x1 : Shape := ⟨2, ![65536, 1]⟩
abbrev S16x1x3072 : Shape := ⟨3, ![16, 1, 3072]⟩
abbrev S65536x3072 : Shape := ⟨2, ![65536, 3072]⟩
abbrev S512x4096 : Shape := ⟨2, ![512, 4096]⟩
abbrev S1x1 : Shape := ⟨2, ![1, 1]⟩
abbrev S512x1 : Shape := ⟨2, ![512, 1]⟩
abbrev S1x4096x3072 : Shape := ⟨3, ![1, 4096, 3072]⟩
abbrev S1x1x3072 : Shape := ⟨3, ![1, 1, 3072]⟩
abbrev S512x3072 : Shape := ⟨2, ![512, 3072]⟩
abbrev S1x4096x512 : Shape := ⟨3, ![1, 4096, 512]⟩
abbrev S4096x512 : Shape := ⟨2, ![4096, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 162
  | .vmem => 10
  | .smem => 1
  | _ => 0

abbrev hbmTy0_0 (i : Nat) : BufTy := match i % 128 with
  | 0 => ⟨S65536x4096, .fp8e4m3⟩
  | 1 => ⟨S65536, .f32⟩
  | 2 => ⟨S16x4096x3072, .fp8e4m3⟩
  | 3 => ⟨S16x3072, .f32⟩
  | 4 => ⟨S16, .i32⟩
  | 5 => ⟨S_, .i32⟩
  | 6 => ⟨S_, .i32⟩
  | 7 => ⟨S16, .i32⟩
  | 8 => ⟨S16, .i32⟩
  | 9 => ⟨S_, .i32⟩
  | 10 => ⟨S_, .i32⟩
  | 11 => ⟨S16, .i32⟩
  | 12 => ⟨S16, .i32⟩
  | 13 => ⟨S16, .i32⟩
  | 14 => ⟨S_, .i32⟩
  | 15 => ⟨S16, .i32⟩
  | 16 => ⟨S16, .i1⟩
  | 17 => ⟨S16, .i32⟩
  | 18 => ⟨S16, .i32⟩
  | 19 => ⟨S_, .i32⟩
  | 20 => ⟨S16, .i32⟩
  | 21 => ⟨S16, .i1⟩
  | 22 => ⟨S16, .i1⟩
  | 23 => ⟨S_, .i32⟩
  | 24 => ⟨S16, .i32⟩
  | 25 => ⟨S16, .i32⟩
  | 26 => ⟨S16, .i32⟩
  | 27 => ⟨S_, .i32⟩
  | 28 => ⟨S16, .i32⟩
  | 29 => ⟨S16, .i32⟩
  | 30 => ⟨S_, .i32⟩
  | 31 => ⟨S_, .i32⟩
  | 32 => ⟨S16, .i32⟩
  | 33 => ⟨S16, .i32⟩
  | 34 => ⟨S16, .i32⟩
  | 35 => ⟨S_, .i32⟩
  | 36 => ⟨S16, .i32⟩
  | 37 => ⟨S16, .i1⟩
  | 38 => ⟨S16, .i32⟩
  | 39 => ⟨S16, .i32⟩
  | 40 => ⟨S_, .i32⟩
  | 41 => ⟨S16, .i32⟩
  | 42 => ⟨S16, .i1⟩
  | 43 => ⟨S16, .i1⟩
  | 44 => ⟨S_, .i32⟩
  | 45 => ⟨S16, .i32⟩
  | 46 => ⟨S16, .i32⟩
  | 47 => ⟨S16, .i32⟩
  | 48 => ⟨S_, .i32⟩
  | 49 => ⟨S16, .i32⟩
  | 50 => ⟨S16, .i1⟩
  | 51 => ⟨S16, .i32⟩
  | 52 => ⟨S_, .i32⟩
  | 53 => ⟨S16, .i32⟩
  | 54 => ⟨S16, .i32⟩
  | 55 => ⟨S_, .i32⟩
  | 56 => ⟨S_, .i32⟩
  | 57 => ⟨S16, .i32⟩
  | 58 => ⟨S16, .i32⟩
  | 59 => ⟨S_, .i32⟩
  | 60 => ⟨S_, .i32⟩
  | 61 => ⟨S16, .i32⟩
  | 62 => ⟨S16, .i32⟩
  | 63 => ⟨S143, .i32⟩
  | 64 => ⟨S143x1, .i32⟩
  | 65 => ⟨S1x16, .i32⟩
  | 66 => ⟨S143x16, .i32⟩
  | 67 => ⟨S143x16, .i32⟩
  | 68 => ⟨S143x16, .i1⟩
  | 69 => ⟨S143x16, .i32⟩
  | 70 => ⟨S_, .i32⟩
  | 71 => ⟨S143, .i32⟩
  | 72 => ⟨S_, .i32⟩
  | 73 => ⟨S143, .i32⟩
  | 74 => ⟨S143, .i1⟩
  | 75 => ⟨S_, .i32⟩
  | 76 => ⟨S16, .i32⟩
  | 77 => ⟨S16, .i1⟩
  | 78 => ⟨S16, .i32⟩
  | 79 => ⟨S_, .i32⟩
  | 80 => ⟨S_, .i32⟩
  | 81 => ⟨S16, .i32⟩
  | 82 => ⟨S16, .i32⟩
  | 83 => ⟨S_, .i32⟩
  | 84 => ⟨S_, .i32⟩
  | 85 => ⟨S143, .i32⟩
  | 86 => ⟨S143, .i32⟩
  | 87 => ⟨S_, .i32⟩
  | 88 => ⟨S143, .i32⟩
  | 89 => ⟨S143, .i1⟩
  | 90 => ⟨S_, .i32⟩
  | 91 => ⟨S143, .i32⟩
  | 92 => ⟨S143, .i32⟩
  | 93 => ⟨S143, .i32⟩
  | 94 => ⟨S143x1, .i32⟩
  | 95 => ⟨S143, .i32⟩
  | 96 => ⟨S143, .i32⟩
  | 97 => ⟨S_, .i32⟩
  | 98 => ⟨S143, .i32⟩
  | 99 => ⟨S143, .i1⟩
  | 100 => ⟨S_, .i32⟩
  | 101 => ⟨S143, .i32⟩
  | 102 => ⟨S143, .i32⟩
  | 103 => ⟨S143, .i32⟩
  | 104 => ⟨S143x1, .i32⟩
  | 105 => ⟨S143, .i32⟩
  | 106 => ⟨S143, .i32⟩
  | 107 => ⟨S_, .i32⟩
  | 108 => ⟨S_, .i32⟩
  | 109 => ⟨S143, .i32⟩
  | 110 => ⟨S143, .i32⟩
  | 111 => ⟨S_, .i32⟩
  | 112 => ⟨S143, .i32⟩
  | 113 => ⟨S143, .i1⟩
  | 114 => ⟨S_, .i32⟩
  | 115 => ⟨S143, .i32⟩
  | 116 => ⟨S143, .i32⟩
  | 117 => ⟨S143, .i32⟩
  | 118 => ⟨S143x1, .i32⟩
  | 119 => ⟨S143, .i32⟩
  | 120 => ⟨S_, .i32⟩
  | 121 => ⟨S143, .i32⟩
  | 122 => ⟨S143, .i32⟩
  | 123 => ⟨S143, .i32⟩
  | 124 => ⟨S_, .i32⟩
  | 125 => ⟨S_, .i32⟩
  | 126 => ⟨S143, .i32⟩
  | 127 => ⟨S143, .i32⟩
  | _ => ⟨S65536x4096, .fp8e4m3⟩

abbrev hbmTy0_1 (i : Nat) : BufTy := match i % 128 with
  | 0 => ⟨S_, .i32⟩
  | 1 => ⟨S143, .i32⟩
  | 2 => ⟨S143, .i1⟩
  | 3 => ⟨S_, .i32⟩
  | 4 => ⟨S143, .i32⟩
  | 5 => ⟨S143, .i32⟩
  | 6 => ⟨S143, .i32⟩
  | 7 => ⟨S143x1, .i32⟩
  | 8 => ⟨S143, .i32⟩
  | 9 => ⟨S_, .i32⟩
  | 10 => ⟨S143, .i32⟩
  | 11 => ⟨S143, .i32⟩
  | 12 => ⟨S_, .i32⟩
  | 13 => ⟨S143, .i32⟩
  | 14 => ⟨S143, .i32⟩
  | 15 => ⟨S143, .i32⟩
  | 16 => ⟨S_, .i32⟩
  | 17 => ⟨S_, .i32⟩
  | 18 => ⟨S143, .i32⟩
  | 19 => ⟨S143, .i32⟩
  | 20 => ⟨S_, .i32⟩
  | 21 => ⟨S1, .i32⟩
  | 22 => ⟨S142, .i32⟩
  | 23 => ⟨S143, .i32⟩
  | 24 => ⟨S143, .i1⟩
  | 25 => ⟨S143, .i32⟩
  | 26 => ⟨S1x143, .i32⟩
  | 27 => ⟨S1x143, .i32⟩
  | 28 => ⟨S1x143, .i32⟩
  | 29 => ⟨S1x143, .i32⟩
  | 30 => ⟨S1x143, .i32⟩
  | 31 => ⟨S65536x1, .f32⟩
  | 32 => ⟨S16x1x3072, .f32⟩
  | 33 => ⟨S65536x3072, .bf16⟩
  | _ => ⟨S65536x4096, .fp8e4m3⟩

abbrev hbmTy (i : Nat) : BufTy := match i / 128 with
  | 0 => hbmTy0_0 i
  | 1 => hbmTy0_1 i
  | _ => ⟨S65536x4096, .fp8e4m3⟩

abbrev bufTy : (tb : Table) → Fin (tcTables nBuf tb) → BufTy
  | .hbm, ⟨i, _⟩ => hbmTy i
  | .local _ .vmem, ⟨0, _⟩ => ⟨S512x4096, .fp8e4m3⟩
  | .local _ .vmem, ⟨1, _⟩ => ⟨S512x4096, .fp8e4m3⟩
  | .local _ .vmem, ⟨2, _⟩ => ⟨S512x1, .f32⟩
  | .local _ .vmem, ⟨3, _⟩ => ⟨S512x1, .f32⟩
  | .local _ .vmem, ⟨4, _⟩ => ⟨S1x4096x3072, .fp8e4m3⟩
  | .local _ .vmem, ⟨5, _⟩ => ⟨S1x4096x3072, .fp8e4m3⟩
  | .local _ .vmem, ⟨6, _⟩ => ⟨S1x1x3072, .f32⟩
  | .local _ .vmem, ⟨7, _⟩ => ⟨S1x1x3072, .f32⟩
  | .local _ .vmem, ⟨8, _⟩ => ⟨S512x3072, .bf16⟩
  | .local _ .vmem, ⟨9, _⟩ => ⟨S512x3072, .bf16⟩
  | .local _ .smem, ⟨0, _⟩ => ⟨S5x143, .i32⟩
  | _, _ => ⟨S65536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_c : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_0 : Ref sig .tc := ⟨.hbm, 44, rfl⟩
abbrev main_call2_v12 : Ref sig .tc := ⟨.hbm, 45, rfl⟩
abbrev main_call2_v13 : Ref sig .tc := ⟨.hbm, 46, rfl⟩
abbrev main_v5 : Ref sig .tc := ⟨.hbm, 47, rfl⟩
abbrev main_c_2 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_c_3 : Ref sig .tc := ⟨.hbm, 52, rfl⟩
abbrev main_v9 : Ref sig .tc := ⟨.hbm, 53, rfl⟩
abbrev main_v10 : Ref sig .tc := ⟨.hbm, 54, rfl⟩
abbrev main_c_4 : Ref sig .tc := ⟨.hbm, 55, rfl⟩
abbrev main_call3_v0 : Ref sig .tc := ⟨.hbm, 56, rfl⟩
abbrev main_call3_v1 : Ref sig .tc := ⟨.hbm, 57, rfl⟩
abbrev main_v11 : Ref sig .tc := ⟨.hbm, 58, rfl⟩
abbrev main_call4_call0_c : Ref sig .tc := ⟨.hbm, 59, rfl⟩
abbrev main_call4_call0_v0 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_c_5 : Ref sig .tc := ⟨.hbm, 70, rfl⟩
abbrev main_v21 : Ref sig .tc := ⟨.hbm, 71, rfl⟩
abbrev main_c_6 : Ref sig .tc := ⟨.hbm, 72, rfl⟩
abbrev main_v22 : Ref sig .tc := ⟨.hbm, 73, rfl⟩
abbrev main_v23 : Ref sig .tc := ⟨.hbm, 74, rfl⟩
abbrev main_c_7 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_c_8 : Ref sig .tc := ⟨.hbm, 79, rfl⟩
abbrev main_call5_v0 : Ref sig .tc := ⟨.hbm, 80, rfl⟩
abbrev main_call5_v1 : Ref sig .tc := ⟨.hbm, 81, rfl⟩
abbrev main_v27 : Ref sig .tc := ⟨.hbm, 82, rfl⟩
abbrev main_c_9 : Ref sig .tc := ⟨.hbm, 83, rfl⟩
abbrev main_v28 : Ref sig .tc := ⟨.hbm, 84, rfl⟩
abbrev main_call6_v0 : Ref sig .tc := ⟨.hbm, 85, rfl⟩
abbrev main_v29 : Ref sig .tc := ⟨.hbm, 86, rfl⟩
abbrev main_c_10 : Ref sig .tc := ⟨.hbm, 87, rfl⟩
abbrev main_v30 : Ref sig .tc := ⟨.hbm, 88, rfl⟩
abbrev main_v31 : Ref sig .tc := ⟨.hbm, 89, rfl⟩
abbrev main_c_11 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_c_12 : Ref sig .tc := ⟨.hbm, 97, rfl⟩
abbrev main_v38 : Ref sig .tc := ⟨.hbm, 98, rfl⟩
abbrev main_v39 : Ref sig .tc := ⟨.hbm, 99, rfl⟩
abbrev main_c_13 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_c_14 : Ref sig .tc := ⟨.hbm, 107, rfl⟩
abbrev main_call7_v0 : Ref sig .tc := ⟨.hbm, 108, rfl⟩
abbrev main_call7_v1 : Ref sig .tc := ⟨.hbm, 109, rfl⟩
abbrev main_v46 : Ref sig .tc := ⟨.hbm, 110, rfl⟩
abbrev main_c_15 : Ref sig .tc := ⟨.hbm, 111, rfl⟩
abbrev main_v47 : Ref sig .tc := ⟨.hbm, 112, rfl⟩
abbrev main_v48 : Ref sig .tc := ⟨.hbm, 113, rfl⟩
abbrev main_c_16 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_c_17 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_c_18 : Ref sig .tc := ⟨.hbm, 124, rfl⟩
abbrev main_call8_v0 : Ref sig .tc := ⟨.hbm, 125, rfl⟩
abbrev main_call8_v1 : Ref sig .tc := ⟨.hbm, 126, rfl⟩
abbrev main_v57 : Ref sig .tc := ⟨.hbm, 127, rfl⟩
abbrev main_c_19 : Ref sig .tc := ⟨.hbm, 128, rfl⟩
abbrev main_v58 : Ref sig .tc := ⟨.hbm, 129, rfl⟩
abbrev main_v59 : Ref sig .tc := ⟨.hbm, 130, rfl⟩
abbrev main_c_20 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_c_21 : Ref sig .tc := ⟨.hbm, 137, rfl⟩
abbrev main_v65 : Ref sig .tc := ⟨.hbm, 138, rfl⟩
abbrev main_v66 : Ref sig .tc := ⟨.hbm, 139, rfl⟩
abbrev main_c_22 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_c_23 : Ref sig .tc := ⟨.hbm, 144, rfl⟩
abbrev main_call9_v0 : Ref sig .tc := ⟨.hbm, 145, rfl⟩
abbrev main_call9_v1 : Ref sig .tc := ⟨.hbm, 146, rfl⟩
abbrev main_v70 : Ref sig .tc := ⟨.hbm, 147, rfl⟩
abbrev main_c_24 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v81 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![143], ![false]⟩

abbrev pre0 : Pipeline.Prefetch sig := ⟨1, ![main_v81.idx], fun | 0 => main_v81.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v0 : Index := Scalar.indexCast arg0
  ![1, v0.toNat]
def k0_off3 (i : grid0.Coords) : Fin 2 → Nat :=
  let c2 : Index := 2#32
  let arg0 : BitVec 32 := BitVec.ofNat 32 (i 0).val
  let v2 : Index := Scalar.indexCast arg0
  ![2, v2.toNat]
def k0_off4 (i : grid0.Coords) : Fin 2 → Nat :=
  let c3 : Index := 3#32
  let arg0 : BitVec 32 := BitVec.ofNat 32 (i 0).val
  let v6 : Index := Scalar.indexCast arg0
  ![3, v6.toNat]
def k0_off5 (i : grid0.Coords) : Fin 2 → Nat :=
  let c4 : Index := 4#32
  let arg0 : BitVec 32 := BitVec.ofNat 32 (i 0).val
  let v10 : Index := Scalar.indexCast arg0
  ![4, v10.toNat]
def k0_cond1 (v1 : BitVec 32) (v3 : BitVec 32) (v7 : BitVec 32) : BitVec 1 :=
  let c512_i32_0 : BitVec 32 := 512#32
  let v8 : BitVec 32 := Scalar.muli v1 c512_i32_0
  let v9 : BitVec 32 := Scalar.subi v7 v8
  let c512_i32 : BitVec 32 := 512#32
  let v4 : BitVec 32 := Scalar.muli v1 c512_i32
  let v5 : BitVec 32 := Scalar.subi v3 v4
  let v13 : BitVec 32 := Scalar.subi v9 v5
  let c512_i32_1 : BitVec 32 := 512#32
  let v14 : BitVec 1 := Scalar.cmpi .eq v13 c512_i32_1
  let v15 : BitVec 32 := Scalar.extui v14
  let c0_i32 : BitVec 32 := 0#32
  let v16 : BitVec 1 := Scalar.cmpi .ne v15 c0_i32
  v16

def k0_cond2 (v1 : BitVec 32) (v3 : BitVec 32) (v7 : BitVec 32) : BitVec 1 :=
  let c512_i32_0 : BitVec 32 := 512#32
  let v8 : BitVec 32 := Scalar.muli v1 c512_i32_0
  let v9 : BitVec 32 := Scalar.subi v7 v8
  let c512_i32 : BitVec 32 := 512#32
  let v4 : BitVec 32 := Scalar.muli v1 c512_i32
  let v5 : BitVec 32 := Scalar.subi v3 v4
  let v17 : BitVec 1 := Scalar.cmpi .sgt v9 v5
  let v18 : BitVec 32 := Scalar.subi v9 v5
  let c512_i32_2 : BitVec 32 := 512#32
  let v19 : BitVec 1 := Scalar.cmpi .slt v18 c512_i32_2
  let v20 : BitVec 1 := Scalar.andi v17 v19
  let v21 : BitVec 32 := Scalar.extui v20
  let c0_i32_3 : BitVec 32 := 0#32
  let v22 : BitVec 1 := Scalar.cmpi .ne v21 c0_i32_3
  v22

def cc0_transform_0 (k0_off1_inb : ∀ i : grid0.Coords, ∀ a, (k0_off1 i) a + S1x1.size a ≤ S5x143.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S5x143) ![0, v0.toNat] S1x1.size (k0_off1_inb i)) numel1_S1x1
  let c0_i32 : BitVec 32 := 0#32
  let c0_i32_0 : BitVec 32 := 0#32
  ![v1.toNat, c0_i32.toNat]

def cc0_transform_1 (k0_off1_inb : ∀ i : grid0.Coords, ∀ a, (k0_off1 i) a + S1x1.size a ≤ S5x143.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S5x143) ![0, v0.toNat] S1x1.size (k0_off1_inb i)) numel1_S1x1
  let c0_i32 : BitVec 32 := 0#32
  let c0_i32_0 : BitVec 32 := 0#32
  ![v1.toNat, c0_i32.toNat]

def cc0_transform_2 (k0_off2_inb : ∀ i : grid0.Coords, ∀ a, (k0_off2 i) a + S1x1.size a ≤ S5x143.size a) (numel1_S1x1 : S1x1.numel = 1) (pf : pre0.Contents (Elt F)) (i : grid0.Coords) : Fin 3 → Nat :=
  let arg0 : BitVec 32 := BitVec.ofNat 32 (i 0).val
  let c1 : Index := 1#32
  let v0 : Index := Scalar.indexCast arg0
  let v1 : BitVec 32 := pf.at 0 (Rect.unit (s := S5x143) ![1, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off2_inb : ∀ i : grid0.Coords, ∀ a, (k0_off2 i) a + S1x1.size a ≤ S5x143.size a) (numel1_S1x1 : S1x1.numel = 1) (pf : pre0.Contents (Elt F)) (i : grid0.Coords) : Fin 3 → Nat :=
  let arg0 : BitVec 32 := BitVec.ofNat 32 (i 0).val
  let c1 : Index := 1#32
  let v0 : Index := Scalar.indexCast arg0
  let v1 : BitVec 32 := pf.at 0 (Rect.unit (s := S5x143) ![1, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1x1.size a ≤ S5x143.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S5x143) ![0, v0.toNat] S1x1.size (k0_off1_inb i)) numel1_S1x1
  let c0_i32 : BitVec 32 := 0#32
  let c0_i32_0 : BitVec 32 := 0#32
  ![v1.toNat, c0_i32.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x3072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S65536x4096 : Shape := ⟨2, ![65536, 4096]⟩
abbrev S65536 : Shape := ⟨1, ![65536]⟩
abbrev S16x4096x3072 : Shape := ⟨3, ![16, 4096, 3072]⟩
abbrev S16x3072 : Shape := ⟨2, ![16, 3072]⟩
abbrev S16 : Shape := ⟨1, ![16]⟩
abbrev S_ : Shape := ⟨0, ![]⟩
abbrev S65536x1 : Shape := ⟨2, ![65536, 1]⟩
abbrev S1x16 : Shape := ⟨2, ![1, 16]⟩
abbrev S65536x16 : Shape := ⟨2, ![65536, 16]⟩
abbrev S65536x3072 : Shape := ⟨2, ![65536, 3072]⟩
abbrev S1x4096x3072 : Shape := ⟨3, ![1, 4096, 3072]⟩
abbrev S4096x3072 : Shape := ⟨2, ![4096, 3072]⟩
abbrev S1x3072 : Shape := ⟨2, ![1, 3072]⟩

abbrev nBuf : Space → Nat
  | .hbm => 20
  | .vmem => 6
  | .smem => 0
  | _ => 0

abbrev bufTy : (tb : Table) → Fin (tcTables nBuf tb) → BufTy
  | .hbm, ⟨0, _⟩ => ⟨S65536x4096, .fp8e4m3⟩
  | .hbm, ⟨1, _⟩ => ⟨S65536, .f32⟩
  | .hbm, ⟨2, _⟩ => ⟨S16x4096x3072, .fp8e4m3⟩
  | .hbm, ⟨3, _⟩ => ⟨S16x3072, .f32⟩
  | .hbm, ⟨4, _⟩ => ⟨S16, .i32⟩
  | .hbm, ⟨5, _⟩ => ⟨S_, .i32⟩
  | .hbm, ⟨6, _⟩ => ⟨S_, .i32⟩
  | .hbm, ⟨7, _⟩ => ⟨S16, .i32⟩
  | .hbm, ⟨8, _⟩ => ⟨S65536, .i32⟩
  | .hbm, ⟨9, _⟩ => ⟨S65536x1, .i32⟩
  | .hbm, ⟨10, _⟩ => ⟨S1x16, .i32⟩
  | .hbm, ⟨11, _⟩ => ⟨S65536x16, .i32⟩
  | .hbm, ⟨12, _⟩ => ⟨S65536x16, .i32⟩
  | .hbm, ⟨13, _⟩ => ⟨S65536x16, .i1⟩
  | .hbm, ⟨14, _⟩ => ⟨S65536x16, .i32⟩
  | .hbm, ⟨15, _⟩ => ⟨S_, .i32⟩
  | .hbm, ⟨16, _⟩ => ⟨S65536, .i32⟩
  | .hbm, ⟨17, _⟩ => ⟨S65536x1, .i32⟩
  | .hbm, ⟨18, _⟩ => ⟨S65536x1, .f32⟩
  | .hbm, ⟨19, _⟩ => ⟨S65536x3072, .bf16⟩
  | .local _ .vmem, ⟨0, _⟩ => ⟨S65536x1, .i32⟩
  | .local _ .vmem, ⟨1, _⟩ => ⟨S65536x4096, .fp8e4m3⟩
  | .local _ .vmem, ⟨2, _⟩ => ⟨S65536x1, .f32⟩
  | .local _ .vmem, ⟨3, _⟩ => ⟨S16x4096x3072, .fp8e4m3⟩
  | .local _ .vmem, ⟨4, _⟩ => ⟨S16x3072, .f32⟩
  | .local _ .vmem, ⟨5, _⟩ => ⟨S65536x3072, .bf16⟩
  | _, _ => ⟨S65536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S65536x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S65536x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S65536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4096x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S65536x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Items.lean ====
/- The work items of a grouped product: which group and which row tile every item has, in natural numbers. -/
module

public import Idealize.ShloMosaic.Lib.Routing.Ops

@[expose] public section

namespace Items

variable (s : ℕ → ℕ)

/-- The rows of the first `n` groups together. -/
def E (n : ℕ) : ℕ := ((List.range n).map s).sum

/-- The tiles of 512 rows that group `j` touches. -/
def T (j : ℕ) : ℕ := if 0 < s j then (E s (j + 1) - 1) / 512 - E s j / 512 + 1 else 0

/-- The items of the first `n` groups together. -/
def I (n : ℕ) : ℕ := ((List.range n).map (T s)).sum

/-- The group of item `i`: 16 where there is no such group. -/
def grp (i : ℕ) : ℕ := Nat.count (fun j => I s (j + 1) ≤ i) 16

/-- The item has rows. -/
abbrev Live (i : ℕ) : Prop := grp s i < 16

/-- The row tile of item `i`. -/
def tile (i : ℕ) : ℕ := if Live s i then E s (grp s i) / 512 + i - I s (grp s i) else 127

/-- The first row of item `i`. -/
def lo (i : ℕ) : ℕ := if Live s i then max (E s (grp s i)) (tile s i * 512) else 0

/-- The row after the last one of item `i`. -/
def hi (i : ℕ) : ℕ := if Live s i then min (E s (grp s i + 1)) ((tile s i + 1) * 512) else 0

/-- The item is the first one of its tile. -/
def First (i : ℕ) : Prop := i = 0 ∨ tile s i ≠ tile s (i - 1)

instance (i : ℕ) : Decidable (First s i) := by unfold First; infer_instance

theorem E_succ (n : ℕ) : E s (n + 1) = E s n + s n := by unfold E; rw [List.range_succ]; simp
theorem I_succ (n : ℕ) : I s (n + 1) = I s n + T s n := by unfold I; rw [List.range_succ]; simp
theorem E_zero : E s 0 = 0 := rfl
theorem I_zero : I s 0 = 0 := rfl

theorem E_mono {a b : ℕ} (h : a ≤ b) : E s a ≤ E s b := by
  induction b, h using Nat.le_induction with
  | base => exact le_rfl
  | succ n _ ih => rw [E_succ]; omega

theorem I_mono {a b : ℕ} (h : a ≤ b) : I s a ≤ I s b := by
  induction b, h using Nat.le_induction with
  | base => exact le_rfl
  | succ n _ ih => rw [I_succ]; omega

theorem count_prefix (p : ℕ → Prop) [DecidablePred p] (g : ℕ) : ∀ n, (∀ j < n, p j ↔ j < g) → Nat.count p n = min n g
  | 0, _ => by simp
  | n + 1, h => by
    rw [Nat.count_succ, count_prefix p g n fun j hj => h j (by omega)]
    have := h n (by omega)
    by_cases hp : p n
    · rw [if_pos hp]; have := this.mp hp; omega
    · rw [if_neg hp]; have : ¬ n < g := fun hh => hp (this.mpr hh); omega

/-- An item between the first one of group `g` and the first one of the next has group `g`. -/
theorem grp_eq {i g : ℕ} (hg : g < 16) (h1 : I s g ≤ i) (h2 : i < I s (g + 1)) : grp s i = g := by
  unfold grp
  rw [count_prefix _ g 16 fun j _ => ⟨fun h => ?_, fun h => ?_⟩]
  · omega
  · by_contra hc; have := I_mono s (show g + 1 ≤ j + 1 by omega); omega
  · have := I_mono s (show j + 1 ≤ g by omega); omega

theorem grp_dead {i : ℕ} (h : I s 16 ≤ i) : grp s i = 16 := by
  unfold grp
  rw [count_prefix _ 16 16 fun j hj => ⟨fun _ => hj, fun _ => ?_⟩]
  · rfl
  · have := I_mono s (show j + 1 ≤ 16 by omega); omega

theorem exists_step (f : ℕ → ℕ) (h0 : f 0 = 0) {i : ℕ} : ∀ n, i < f n → ∃ g < n, f g ≤ i ∧ i < f (g + 1)
  | 0, h => by omega
  | n + 1, h => by
    by_cases hn : i < f n
    · obtain ⟨g, hg, h1, h2⟩ := exists_step f h0 n hn
      exact ⟨g, by omega, h1, h2⟩
    · exact ⟨n, by omega, by omega, h⟩

theorem live_iff (i : ℕ) : Live s i ↔ i < I s 16 := by
  constructor
  · intro h; by_contra hc; have := grp_dead s (i := i) (by omega); unfold Live at h; omega
  · intro h
    obtain ⟨g, hg, h1, h2⟩ := exists_step (I s) (I_zero s) 16 h
    unfold Live; rw [grp_eq s hg h1 h2]; exact hg

theorem live_bounds {i : ℕ} (h : Live s i) : I s (grp s i) ≤ i ∧ i < I s (grp s i + 1) := by
  obtain ⟨g, hg, h1, h2⟩ := exists_step (I s) (I_zero s) 16 ((live_iff s i).mp h)
  rw [grp_eq s hg h1 h2]; exact ⟨h1, h2⟩

/-- The items of a group with rows. -/
theorem I_next {g : ℕ} (h : I s g < I s (g + 1)) : 0 < s g ∧ I s (g + 1) = I s g + ((E s (g + 1) - 1) / 512 - E s g / 512 + 1) := by
  rw [I_succ] at h ⊢
  unfold T at h ⊢
  split at h
  · rename_i hp; rw [if_pos hp]; exact ⟨hp, rfl⟩
  · omega

theorem tile_bounds {i : ℕ} (h : Live s i) : tile s i = E s (grp s i) / 512 + (i - I s (grp s i)) ∧ E s (grp s i) < E s (grp s i + 1)
    ∧ tile s i ≤ (E s (grp s i + 1) - 1) / 512 ∧ E s (grp s i) / 512 ≤ tile s i := by
  obtain ⟨h1, h2⟩ := live_bounds s h
  obtain ⟨h3, h4⟩ := I_next s (show I s (grp s i) < I s (grp s i + 1) by omega)
  have h5 := E_succ s (grp s i)
  have ht : tile s i = E s (grp s i) / 512 + i - I s (grp s i) := by unfold tile; rw [if_pos h]
  have h6 : E s (grp s i) / 512 ≤ (E s (grp s i + 1) - 1) / 512 := Nat.div_le_div_right (by omega)
  omega

theorem lo_hi {i : ℕ} (h : Live s i) : lo s i = max (E s (grp s i)) (tile s i * 512) ∧ hi s i = min (E s (grp s i + 1)) ((tile s i + 1) * 512)
    ∧ lo s i < hi s i ∧ tile s i * 512 ≤ lo s i ∧ hi s i ≤ (tile s i + 1) * 512 := by
  obtain ⟨-, h2, h3, h4⟩ := tile_bounds s h
  have e1 : lo s i = max (E s (grp s i)) (tile s i * 512) := by unfold lo; rw [if_pos h]
  have e2 : hi s i = min (E s (grp s i + 1)) ((tile s i + 1) * 512) := by unfold hi; rw [if_pos h]
  omega

theorem dead_lo_hi {i : ℕ} (h : ¬ Live s i) : lo s i = 0 ∧ hi s i = 0 ∧ tile s i = 127 := by
  unfold lo hi tile; rw [if_neg h, if_neg h, if_neg h]; exact ⟨rfl, rfl, rfl⟩

theorem I_le (n : ℕ) : I s (n + 1) ≤ (E s (n + 1) + 511) / 512 + n := by
  induction n with
  | zero =>
    rw [I_succ, E_succ, I_zero, E_zero]; unfold T; rw [E_succ, E_zero]
    split <;> omega
  | succ n ih =>
    rw [I_succ]
    have h1 := E_succ s (n + 1)
    unfold T
    split <;> omega

section
variable {s} (hE : E s 16 = 65536)
include hE

theorem I16_le : I s 16 ≤ 143 := by have := I_le s 15; rw [hE] at this; exact this

theorem E_le {g : ℕ} (hg : g ≤ 16) : E s g ≤ 65536 := hE ▸ E_mono s hg

theorem tile_lt (i : ℕ) : tile s i < 128 := by
  by_cases h : Live s i
  · obtain ⟨-, h2, h3, h4⟩ := tile_bounds s h
    have := E_le hE (show grp s i + 1 ≤ 16 from h)
    omega
  · rw [(dead_lo_hi s h).2.2]; omega

/-- Every row belongs to one item. -/
theorem exists_item {r : ℕ} (hr : r < 65536) : ∃ i, Live s i ∧ i < 143 ∧ tile s i = r / 512 ∧ lo s i ≤ r ∧ r < hi s i
    ∧ E s (grp s i) ≤ r ∧ r < E s (grp s i + 1) := by
  obtain ⟨e, he, h1, h2⟩ := exists_step (E s) (E_zero s) 16 (hE ▸ hr)
  have hs : 0 < s e := by have := E_succ s e; omega
  have hI : I s (e + 1) = I s e + ((E s (e + 1) - 1) / 512 - E s e / 512 + 1) := by
    rw [I_succ]; unfold T; rw [if_pos hs]
  have q1 : E s e / 512 ≤ r / 512 := Nat.div_le_div_right h1
  have q2 : r / 512 ≤ (E s (e + 1) - 1) / 512 := Nat.div_le_div_right (by omega)
  have hg := grp_eq s (i := I s e + (r / 512 - E s e / 512)) he (by omega) (by omega)
  have hl : Live s (I s e + (r / 512 - E s e / 512)) := by unfold Live; rw [hg]; exact he
  have hb := I_mono s (show e + 1 ≤ 16 by omega)
  have h16 := I16_le hE
  have ht := (tile_bounds s hl).1
  have hlh := lo_hi s hl
  rw [hg] at ht hlh
  refine ⟨_, hl, by omega, by omega, by omega, by omega, by rw [hg]; exact h1, by rw [hg]; exact h2⟩

omit hE in
theorem group_unique {a b r : ℕ} (ha : E s a ≤ r) (ha' : r < E s (a + 1)) (hb : E s b ≤ r) (hb' : r < E s (b + 1)) : a = b := by
  rcases Nat.lt_trichotomy a b with h | h | h
  · have := E_mono s (show a + 1 ≤ b from h); omega
  · exact h
  · have := E_mono s (show b + 1 ≤ a from h); omega

omit hE in
/-- Two items with the same row are the same item. -/
theorem item_unique {i i' r : ℕ} (hl : Live s i) (hl' : Live s i') (h1 : lo s i ≤ r) (h2 : r < hi s i) (h1' : lo s i' ≤ r) (h2' : r < hi s i') : i = i' := by
  have a := lo_hi s hl; have a' := lo_hi s hl'
  have hg : grp s i = grp s i' := group_unique (s := s) (r := r) (by omega) (by omega) (by omega) (by omega)
  have b := tile_bounds s hl; have b' := tile_bounds s hl'
  have c := live_bounds s hl; have c' := live_bounds s hl'
  rw [← hg] at a' b' c'
  omega

theorem tile_mono {i i' : ℕ} (h : i ≤ i') : tile s i ≤ tile s i' := by
  by_cases hl' : Live s i'
  · have hl : Live s i := (live_iff s i).mpr (Nat.lt_of_le_of_lt h ((live_iff s i').mp hl'))
    have b := tile_bounds s hl; have b' := tile_bounds s hl'
    have c := live_bounds s hl; have c' := live_bounds s hl'
    rcases Nat.lt_trichotomy (grp s i) (grp s i') with hg | hg | hg
    · have := E_mono s (show grp s i + 1 ≤ grp s i' from hg)
      have : (E s (grp s i + 1) - 1) / 512 ≤ E s (grp s i') / 512 := Nat.div_le_div_right (by omega)
      omega
    · rw [← hg] at b' c'; omega
    · have := I_mono s (show grp s i' + 1 ≤ grp s i from hg); omega
  · rw [(dead_lo_hi s hl').2.2]; have := tile_lt hE i; omega

/-- The last item with rows has the last tile, and so have all items after it. -/
theorem live_of_tile_ne {n : ℕ} (h : tile s (n + 1) ≠ tile s n) : Live s (n + 1) := by
  by_contra hd
  obtain ⟨i, hl, -, ht, -⟩ := exists_item hE (show 65535 < 65536 by omega)
  have h1 := (dead_lo_hi s hd).2.2
  have h2 : i ≤ n := by
    have := (live_iff s i).mp hl
    have h3 : ¬ n + 1 < I s 16 := fun hh => hd ((live_iff s _).mpr hh)
    omega
  have h3 := tile_mono hE h2
  have h4 := tile_lt hE n
  omega

theorem live_zero : Live s 0 := by
  obtain ⟨i, hl, -⟩ := exists_item hE (show 0 < 65536 by omega)
  exact (live_iff s 0).mpr (by have := (live_iff s i).mp hl; omega)

/-- At the last item of a tile all the tile's rows have had theirs. -/
theorem flush_done {t i : ℕ} (hf : t = 142 ∨ tile s (t + 1) ≠ tile s t) (hi143 : i < 143) (hti : tile s i = tile s t) : i ≤ t := by
  by_contra hc
  rcases hf with h | h
  · omega
  · have h1 := tile_mono hE (show t ≤ t + 1 by omega)
    have h2 := tile_mono hE (show t + 1 ≤ i by omega)
    omega

/-- Between an item and a later one of the same tile all items have that tile. -/
theorem tile_between {i t : ℕ} (h : i < t) (hti : tile s i = tile s t) : tile s (t - 1) = tile s t ∧ ¬ First s t := by
  have h1 := tile_mono hE (show i ≤ t - 1 by omega)
  have h2 := tile_mono hE (show t - 1 ≤ t by omega)
  have h3 : tile s (t - 1) = tile s t := by omega
  refine ⟨h3, fun hF => ?_⟩
  rcases hF with hF | hF
  · omega
  · exact hF h3.symm

/-- Every tile has a last item. -/
theorem exists_flush {r : ℕ} (hr : r < 65536) : ∃ t < 143, tile s t = r / 512 ∧ (t = 142 ∨ tile s (t + 1) ≠ tile s t) := by
  obtain ⟨i, -, hi143, ht, -⟩ := exists_item hE hr
  have hsp := Nat.findGreatest_spec (P := fun i => tile s i = r / 512) (show i ≤ 142 by omega) ht
  have hle := Nat.findGreatest_le (P := fun i => tile s i = r / 512) 142
  refine ⟨Nat.findGreatest (fun i => tile s i = r / 512) 142, by omega, hsp, ?_⟩
  by_cases h : Nat.findGreatest (fun i => tile s i = r / 512) 142 = 142
  · exact Or.inl h
  · refine Or.inr fun hh => ?_
    exact Nat.findGreatest_is_greatest (P := fun i => tile s i = r / 512) (n := 142) (k := Nat.findGreatest (fun i => tile s i = r / 512) 142 + 1) (by omega) (by omega) (hh.trans hsp)

end

end Items
-- ==== Proof.ItemWords.lean ====
/- Words that hold natural numbers: comparisons, selections and the largest entry of a short vector. -/
module

public import proofs.«01_k».proof.Proof.Items
public import Idealize.ShloMosaic.Lib.Routing.OpsSet
public import Idealize.ShloMosaic.Lib.PlanTiles.Rows

@[expose] public section

namespace Items

open Idealize.ShloMosaic Idealize.ShloMosaic.Routing Idealize.ShloMosaic.ValueIdx

theorem cmpi_sgt {a b : ℕ} (ha : a < 2 ^ 31) (hb : b < 2 ^ 31) : IntOp.cmpi .sgt (BitVec.ofNat 32 a) (BitVec.ofNat 32 b) = BitVec.ofBool (decide (b < a)) := by
  show BitVec.ofBool ((BitVec.ofNat 32 b).slt (BitVec.ofNat 32 a)) = _
  rw [slt_ofNat32 hb ha]

theorem cmpi_slt {a b : ℕ} (ha : a < 2 ^ 31) (hb : b < 2 ^ 31) : IntOp.cmpi .slt (BitVec.ofNat 32 a) (BitVec.ofNat 32 b) = BitVec.ofBool (decide (a < b)) := by
  show BitVec.ofBool ((BitVec.ofNat 32 a).slt (BitVec.ofNat 32 b)) = _
  rw [slt_ofNat32 ha hb]

theorem cmpi_sge {a b : ℕ} (ha : a < 2 ^ 31) (hb : b < 2 ^ 31) : IntOp.cmpi .sge (BitVec.ofNat 32 a) (BitVec.ofNat 32 b) = BitVec.ofBool (decide (b ≤ a)) := by
  show BitVec.ofBool ((BitVec.ofNat 32 b).sle (BitVec.ofNat 32 a)) = _
  rw [sle_ofNat32 hb ha]

theorem ofNat_inj {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · intro h; rw [h]

theorem cmpi_ne {a b : ℕ} (ha : a < 2 ^ 32) (hb : b < 2 ^ 32) : IntOp.cmpi .ne (BitVec.ofNat 32 a) (BitVec.ofNat 32 b) = BitVec.ofBool (decide (a ≠ b)) := by
  show BitVec.ofBool (BitVec.ofNat 32 a != BitVec.ofNat 32 b) = _
  congr 1
  by_cases h : a = b
  · rw [h]; simp
  · have : ¬ BitVec.ofNat 32 a = BitVec.ofNat 32 b := fun hh => h ((ofNat_inj ha hb).mp hh)
    rw [bne_iff_ne.mpr this]; simp [h]

theorem ofBool_one (p : Prop) [Decidable p] : BitVec.ofBool (decide p) = 1#1 ↔ p := by
  by_cases h : p <;> simp [h]

theorem select_ofBool {α : Type} (p : Prop) [Decidable p] (a b : α) : Scalar.select (BitVec.ofBool (decide p)) a b = if p then a else b := by
  unfold Scalar.select
  by_cases h : p
  · rw [if_pos h, if_pos (by rw [decide_eq_true h]; rfl)]
  · rw [if_neg h, if_neg (by rw [decide_eq_false h]; decide)]

theorem select_ofNat (p : Prop) [Decidable p] (a b : ℕ) : Scalar.select (BitVec.ofBool (decide p)) (BitVec.ofNat 32 a) (BitVec.ofNat 32 b) = BitVec.ofNat 32 (if p then a else b) := by
  rw [select_ofBool]; split <;> rfl

theorem add_ofNat (a b : ℕ) : BitVec.ofNat 32 a + BitVec.ofNat 32 b = BitVec.ofNat 32 (a + b) := (BitVec.ofNat_add ..).symm
theorem mul_ofNat (a b : ℕ) : BitVec.ofNat 32 a * BitVec.ofNat 32 b = BitVec.ofNat 32 (a * b) := (BitVec.ofNat_mul ..).symm

theorem maxsi_word {a b : ℕ} (ha : a < 2 ^ 31) (hb : b < 2 ^ 31) : IntOp.maxsi (BitVec.ofNat 32 a) (BitVec.ofNat 32 b) = BitVec.ofNat 32 (max a b) := by
  unfold IntOp.maxsi
  rw [slt_ofNat32 hb ha]
  by_cases h : b < a
  · simp [h, Nat.max_eq_left (Nat.le_of_lt h)]
  · simp [h, Nat.max_eq_right (Nat.le_of_not_lt h)]

/-- A choice of a small index word, normalised as a possibly negative index is, is the index itself. -/
theorem wrap_ofNat {a : ℕ} (ha : a < 2 ^ 31) (y : BitVec 32) : Scalar.select (IntOp.cmpi .slt (BitVec.ofNat 32 a) 0#32) y (BitVec.ofNat 32 a) = BitVec.ofNat 32 a := by
  rw [show (0#32 : BitVec 32) = BitVec.ofNat 32 0 from rfl, cmpi_slt ha (by decide), select_ofBool, if_neg (by omega)]

theorem fold_max {ι : Type} (g : ι → BitVec 32) (N : ℕ) (hN : N < 2 ^ 31) : ∀ (l : List ι) (_ : ∀ a ∈ l, ∃ n < N, g a = BitVec.ofNat 32 n) (acc : BitVec 32),
    (∃ n < N, acc = BitVec.ofNat 32 n) → ∃ n < N, l.foldl (fun r a => IntOp.maxsi r (g a)) acc = BitVec.ofNat 32 n
  | [], _, _, h => h
  | a :: l, hg, acc, ⟨n, hn, h⟩ => by
    obtain ⟨k, hk, h2⟩ := hg a (by simp)
    refine fold_max g N hN l (fun b hb => hg b (by simp [hb])) _ ⟨max n k, by omega, ?_⟩
    show IntOp.maxsi acc (g a) = _
    rw [h, h2, maxsi_word (by omega) (by omega)]

theorem maxsi_least {a : ℕ} (ha : a < 2 ^ 31) : IntOp.maxsi 2147483648#32 (BitVec.ofNat 32 a) = BitVec.ofNat 32 a := by
  unfold IntOp.maxsi
  have h : (BitVec.ofNat 32 a).slt (2147483648#32 : BitVec 32) = false := by
    unfold BitVec.slt
    rw [StableHlo.Predicate.toInt_ofNat_small _ ha, show (2147483648#32 : BitVec 32).toInt = -2147483648 from by decide]
    exact decide_eq_false (by omega)
  rw [h]; rfl

/-- The largest entry of a vector of small words is a small word. -/
theorem reduce_max {n : ℕ} (x : IVec (shape1 (n + 1)) 32) (N : ℕ) (hN : N < 2 ^ 31) (hx : ∀ i : Fin (n + 1), ∃ k < N, x (ix1 i) = BitVec.ofNat 32 k)
    (h : (shape1 (n + 1)).ReducesTo [0] shape0) (hu : 0 < shape0.numel) :
    ∃ k < N, Host.reduce IntOp.maxsi x (constantI shape0 32 2147483648#32) h hu ix0 = BitVec.ofNat 32 k := by
  unfold Host.reduce
  rw [List.filter_eq_self.2 fun n _ => decide_eq_true (funext fun a => a.elim0)]
  have hg : ∀ a ∈ List.finRange (shape1 (n + 1)).numel, ∃ k < N, x ((shape1 (n + 1)).rowMajor.symm a) = BitVec.ofNat 32 k := fun a _ => by
    rw [symm1]; exact hx _
  have hne : (List.finRange (shape1 (n + 1)).numel).length ≠ 0 := by rw [List.length_finRange, numel1]; omega
  revert hg hne
  generalize List.finRange (shape1 (n + 1)).numel = l
  intro hg hne
  cases l with
  | nil => exact absurd rfl hne
  | cons a l =>
    obtain ⟨k, hk, h2⟩ := hg a (by simp)
    refine fold_max (fun a => x ((shape1 (n + 1)).rowMajor.symm a)) N hN l (fun b hb => hg b (by simp [hb])) _ ⟨k, hk, ?_⟩
    show IntOp.maxsi 2147483648#32 (x ((shape1 (n + 1)).rowMajor.symm a)) = _
    rw [h2, maxsi_least (by omega)]

end Items
-- ==== Proof.Sizes.lean ====
/- What the precondition says of the sizes of the groups: they are natural numbers that add up to the rows. -/
module

public import proofs.«01_k».proof.Proof.Gen.Pre_sizes_ok
public import proofs.«01_k».proof.Proof.ItemWords

@[expose] public section

namespace Items

open Idealize.ShloMosaic Idealize.ShloMosaic.Routing
open Cert.Pre_sizes_ok (S16 S_ S1)

/-- The sizes of the groups, as numbers. -/
def sizesOf (x : IVec S16 32) (j : ℕ) : ℕ := if h : j < 16 then (x (ValueIdx.ix1 (⟨j, h⟩ : Fin 16))).toNat else 0

theorem sizesOf_word (x : IVec S16 32) (j : Fin 16) : x (ValueIdx.ix1 j) = BitVec.ofNat 32 (sizesOf x j) := by
  unfold sizesOf
  rw [dif_pos j.isLt, BitVec.ofNat_toNat, BitVec.setWidth_eq]

theorem small_of_sle {x : BitVec 32} (h0 : IntOp.cmpi .sge x 0#32 = 1#1) (h1 : IntOp.cmpi .sle x 65536#32 = 1#1) : x.toNat ≤ 65536 := by
  change BitVec.ofBool ((0#32 : BitVec 32).sle x) = 1#1 at h0
  change BitVec.ofBool (x.sle 65536#32) = 1#1 at h1
  have g0 : (0#32 : BitVec 32).sle x = true := by revert h0; cases (0#32 : BitVec 32).sle x <;> decide
  have g1 : x.sle 65536#32 = true := by revert h1; cases x.sle 65536#32 <;> decide
  unfold BitVec.sle at g0 g1
  have k0 := of_decide_eq_true g0
  have k1 := of_decide_eq_true g1
  rw [show (0#32 : BitVec 32).toInt = 0 from by decide] at k0
  rw [show (65536#32 : BitVec 32).toInt = 65536 from by decide] at k1
  rw [BitVec.toInt_eq_toNat_cond] at k0 k1
  have := x.isLt
  split at k0 <;> omega

theorem E_le_mul (s : ℕ → ℕ) (hs : ∀ j < 16, s j ≤ 65536) : ∀ n ≤ 16, E s n ≤ n * 65536
  | 0, _ => by exact Nat.zero_le _
  | n + 1, h => by
    have h1 := E_le_mul s hs n (by omega)
    have h2 := hs n (by omega)
    rw [E_succ]; omega

theorem one_idx (k : S1.Idx) : k = ValueIdx.ix1 (0 : Fin 1) := funext fun a => by
  match a with
  | ⟨0, _⟩ => exact Subsingleton.elim (α := Fin 1) _ _

theorem first_ap (Y : IVec S1 32) (h : S1.ShapeCasts S_) : shapeCast S_ Y h ValueIdx.ix0 = Y (ValueIdx.ix1 (0 : Fin 1)) := by
  unfold shapeCast
  exact congrArg Y (one_idx _)

theorem last_ap (X : IVec S16 32) : shapeCast S_ (extractStridedSlice S1 ![15] X Cert.Pre_sizes_ok.Gen.slices_S16_S1_15) Cert.Pre_sizes_ok.Gen.shapeCasts_S1_S_ ValueIdx.ix0 = X (ValueIdx.ix1 (15 : Fin 16)) :=
  (first_ap _ _).trans (slice1 15 X Cert.Pre_sizes_ok.Gen.slices_S16_S1_15 (0 : Fin 1) (by decide))

theorem cum_ap {F : FTy → Type} [FloatOps F] (x : IVec S16 32) (j : Fin 16) : Cert.Pre_sizes_ok.fn_cumsum (F := F) x (ValueIdx.ix1 j) = BitVec.ofNat 32 (E (sizesOf x) (j.val + 1)) := by
  unfold Cert.Pre_sizes_ok.fn_cumsum Cert.Pre_sizes_ok.fn_cumsum_0
  exact cumsum1 rfl x (sizesOf x) (sizesOf_word x) _ rfl Cert.Pre_sizes_ok.Gen.reduceWindows_S16_S16_w16s1p15_0 Cert.Pre_sizes_ok.Gen.h_S_ j

theorem eq_of_cmpi {a b : BitVec 32} (h : IntOp.cmpi .eq a b = 1#1) : a = b := by
  change BitVec.ofBool (a == b) = 1#1 at h
  by_contra hc
  rw [beq_eq_false_iff_ne.mpr hc] at h
  exact absurd h (by decide)

theorem andi_one (a b : BitVec 1) : IntOp.andi a b = 1#1 ↔ a = 1#1 ∧ b = 1#1 := by revert a b; decide

theorem words {F : FTy → Type} [FloatOps F] (a0 : FVec F Cert.Pre_sizes_ok.S65536x4096 .fp8e4m3) (a1 : FVec F Cert.Pre_sizes_ok.S65536 .f32) (a2 : FVec F Cert.Pre_sizes_ok.S16x4096x3072 .fp8e4m3)
    (a3 : FVec F Cert.Pre_sizes_ok.S16x3072 .f32) (a4 : IVec S16 32) (h : Cert.Pre_sizes_ok.fn (F := F) a0 a1 a2 a3 a4 = fun _ => 1#1) (j : Fin 16) :
    (IntOp.cmpi .sge (a4 (ValueIdx.ix1 j)) 0#32 = 1#1 ∧ IntOp.cmpi .sle (a4 (ValueIdx.ix1 j)) 65536#32 = 1#1)
      ∧ Cert.Pre_sizes_ok.fn_cumsum (F := F) a4 (ValueIdx.ix1 (15 : Fin 16)) = 65536#32 := by
  have hj := congrFun h (ValueIdx.ix1 j)
  unfold Cert.Pre_sizes_ok.fn at hj
  have e := (andi_one _ _).mp hj
  have e2 := (bc0 _ _ _).symm.trans e.2
  exact ⟨(andi_one _ _).mp e.1, (last_ap _).symm.trans (eq_of_cmpi e2)⟩

theorem sizes {F : FTy → Type} [FloatOps F] (a0 : FVec F Cert.Pre_sizes_ok.S65536x4096 .fp8e4m3) (a1 : FVec F Cert.Pre_sizes_ok.S65536 .f32) (a2 : FVec F Cert.Pre_sizes_ok.S16x4096x3072 .fp8e4m3)
    (a3 : FVec F Cert.Pre_sizes_ok.S16x3072 .f32) (a4 : IVec S16 32) (h : Cert.Pre_sizes_ok.fn (F := F) a0 a1 a2 a3 a4 = fun _ => 1#1) : E (sizesOf a4) 16 = 65536 := by
  have hs : ∀ j < 16, sizesOf a4 j ≤ 65536 := by
    intro j hj
    have k := (words a0 a1 a2 a3 a4 h ⟨j, hj⟩).1
    unfold sizesOf
    rw [dif_pos hj]
    exact small_of_sle k.1 k.2
  have h16 := (words a0 a1 a2 a3 a4 h 0).2
  have hE := E_le_mul _ hs 16 (le_refl _)
  have hc := (cum_ap (F := F) a4 (15 : Fin 16)).symm.trans h16
  have h15 : (15 : Fin 16).val + 1 = 16 := rfl
  rw [h15] at hc
  exact (ofNat_inj (by omega) (by decide)).mp hc

end Items
-- ==== Proof.KernelRuns.lean ====
/- What the body's runs share: the memory when the pipelined region is entered, the prefetched table read off it, the blocks of the windows. -/
module

public import proofs.«01_k».proof.Proof.Gen.Kernel.Launch
public import proofs.«01_k».proof.Proof.Gen.Kernel.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations before the region, in order. -/
abbrev hostLines : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Core `c`'s TensorCore buffers when the region is entered. -/
abbrev V (c : Dev nD) (b : Ref sig .tc) : Buf (Elt F) ((c : Thread nD τ).loc b) := StableHlo.after hostLines.flatten (fun b => m (c, b)) b

theorem hostLines_sub : (hostLines : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor

theorem hostLines_fresh : (hostLines : List (List (HloOp τ sig (Elt F)))).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩

set_option maxHeartbeats 1600000 in
/-- The program up to the region: its host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLines hostLines_sub hostLines_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5x143 .i32 := Memref.whole main_v81
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__gmm_kernel (grid0.coords t) (Memref.whole main_v81) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x4096 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096x3072 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x3072 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x3072 .bf16 := spec0_4.stage ((cfgM m hO).slots t 4)
abbrev hs0_4 (hO : Ok m) (t : Fin (cfgM m hO).N) : (ms0_4 m hO t).IsWhole := hstage0_4 (((cfgM m hO).slots t 4).cast nbuf0_4)

end Cert.Kernel.Gen

end
-- ==== Proof.KernelTable.lean ====
/- The table of work items, word by word: what the host lines before the region leave in it. -/
module

public import proofs.«01_k».proof.Proof.KernelRuns
public import proofs.«01_k».proof.Proof.ItemWords
public import Idealize.ShloMosaic.Lib.StableHlo.RunRead
public import Idealize.ShloMosaic.Lib.Pipeline.Value
public import Idealize.ShloMosaic.Lib.Tactic.CleanTypes

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Routing Idealize.ShloMosaic.StableHlo Items
open Idealize.ShloMosaic.WordCmp (select_at cmpi_at constantI_at extui_at)
open Idealize.ShloMosaic.PlanTiles (minsi_word)

variable (W : Valuation τ sig (Elt F)) (s : ℕ → ℕ)

/-! ## What each stretch of host lines writes -/

abbrev ops1 : List (HloOp τ sig (Elt F)) := hostOps0 ++ (hostOps0_1 ++ hostOps0_2)
abbrev ops2 : List (HloOp τ sig (Elt F)) := hostOps0_3 ++ (hostOps0_4 ++ (hostOps0_5 ++ hostOps0_6))
abbrev ops3 : List (HloOp τ sig (Elt F)) := hostOps0_7 ++ hostOps0_8
abbrev ops4 : List (HloOp τ sig (Elt F)) := hostOps0_9 ++ (hostOps0_10 ++ hostOps0_11)
abbrev ops5 : List (HloOp τ sig (Elt F)) := hostOps0_12 ++ hostOps0_13
abbrev ops6 : List (HloOp τ sig (Elt F)) := hostOps0_14 ++ hostOps0_15
abbrev ops7 : List (HloOp τ sig (Elt F)) := hostOps0_16 ++ hostOps0_17

theorem s1_v0 (hx : ∀ j : Fin 16, (W (Proc.devRef .tc main_arg4) : IVec S16 32) (ValueIdx.ix1 j) = BitVec.ofNat 32 (s j)) (j : Fin 16) : (after ops1 W (Proc.devRef .tc main_v0) : IVec S16 32) (ValueIdx.ix1 j) = BitVec.ofNat 32 (E s (j+1)) := by
  after_reads_simp; (try simp -implicitDefEqProofs only [StableHlo.TRef.toBuf, StableHlo.TRef.ofBuf, cast_cast, cast_eq]); clean_types; (try simp only [id_eq])
  exact cumsum1 rfl _ s hx _ rfl _ _ j

theorem s1_v1 (hx : ∀ j : Fin 16, (W (Proc.devRef .tc main_arg4) : IVec S16 32) (ValueIdx.ix1 j) = BitVec.ofNat 32 (s j)) (j : Fin 16) : (after ops1 W (Proc.devRef .tc main_v1) : IVec S16 32) (ValueIdx.ix1 j) = BitVec.ofNat 32 (E s j) := by
  have h := s1_v0 W s hx j
  revert h
  after_reads_simp; (try simp -implicitDefEqProofs only [StableHlo.TRef.toBuf, StableHlo.TRef.ofBuf, cast_cast, cast_eq]); clean_types; (try simp only [id_eq])
  intro h
  refine (subi_ap _ _ _).trans ?_
  refine (congrArg₂ (· - ·) h (hx j)).trans ?_
  rw [E_succ]
  exact (ofNat32_sub (Nat.le_add_left _ _)).trans (by rw [Nat.add_sub_cancel])

theorem s1_v2 (hx : ∀ j : Fin 16, (W (Proc.devRef .tc main_arg4) : IVec S16 32) (ValueIdx.ix1 j) = BitVec.ofNat 32 (s j)) (hE : E s 16 = 65536) (j : Fin 16) : (after ops1 W (Proc.devRef .tc main_v2) : IVec S16 32) (ValueIdx.ix1 j) = BitVec.ofNat 32 (E s j / 512) := by
  have h := s1_v1 W s hx j
  revert h
  after_reads_simp; (try simp -implicitDefEqProofs only [StableHlo.TRef.toBuf, StableHlo.TRef.ofBuf, cast_cast, cast_eq]); clean_types; (try simp only [id_eq])
  intro h
  exact pyDiv_ap _ _ _ _ h rfl (by have := E_mono s (Nat.le_of_lt j.isLt); omega) (by decide) (by decide)

theorem s2_v11 (hx : ∀ j : Fin 16, (W (Proc.devRef .tc main_arg4) : IVec S16 32) (ValueIdx.ix1 j) = BitVec.ofNat 32 (s j)) (h0 : ∀ j : Fin 16, (W (Proc.devRef .tc main_v0) : IVec S16 32) (ValueIdx.ix1 j) = BitVec.ofNat 32 (E s (j+1)))
    (h2 : ∀ j : Fin 16, (W (Proc.devRef .tc main_v2) : IVec S16 32) (ValueIdx.ix1 j) = BitVec.ofNat 32 (E s j / 512)) (hE : E s 16 = 65536) (j : Fin 16) : (after ops2 W (Proc.devRef .tc main_v11) : IVec S16 32) (ValueIdx.ix1 j) = BitVec.ofNat 32 (T s j) := by
  after_reads_simp; (try simp -implicitDefEqProofs only [StableHlo.TRef.toBuf, StableHlo.TRef.ofBuf, cast_cast, cast_eq]); clean_types; (try simp only [id_eq])
  have h1 := E_mono s (Nat.succ_le_of_lt j.isLt)
  have h3 := E_succ s j
  simp only [Nat.succ_eq_add_one] at h1
  have e : ∀ (P : IVec S16 32) (x v : IVec S16 32) (a b : ℕ), x (ValueIdx.ix1 j) = BitVec.ofNat 32 (s j) → v (ValueIdx.ix1 j) = BitVec.ofNat 32 b → (0 < s j → b ≤ a) → (0 < s j → P (ValueIdx.ix1 j) = BitVec.ofNat 32 a) →
      select (cmpi .sgt x (broadcastInDim S16 ![] bcast_S_S16 (constantI S_ 32 0#32))) (addi (subi P v) (broadcastInDim S16 ![] bcast_S_S16 (constantI S_ 32 1#32)))
        (broadcastInDim S16 ![] bcast_S_S16 (constantI S_ 32 0#32)) (ValueIdx.ix1 j) = BitVec.ofNat 32 (if 0 < s j then a - b + 1 else 0) := by
    intro P x v a b hx hv hab hP
    rw [select_at, cmpi_at, bc0, constantI_at, hx, show (0#32 : BitVec 32) = BitVec.ofNat 32 0 from rfl, cmpi_sgt (by omega) (by decide), select_ofBool]
    by_cases hp : 0 < s j
    · rw [if_pos hp, if_pos hp, addi_ap, subi_ap, hP hp, hv, bc0, constantI_at, ofNat32_sub (hab hp), show (1#32 : BitVec 32) = BitVec.ofNat 32 1 from rfl, add_ofNat]
    · rw [if_neg hp, if_neg hp]
  refine (e _ _ _ ((E s (j+1) - 1) / 512) (E s j / 512) (hx j) (h2 j) ?_ ?_).trans rfl
  · intro hp; exact Nat.div_le_div_right (by omega)
  · intro hp
    refine pyDiv_ap _ _ _ _ ?_ rfl (by omega) (by decide) (by decide)
    have e2 : ∀ v : IVec S16 32, v (ValueIdx.ix1 j) = BitVec.ofNat 32 (E s (j+1)) → subi v (broadcastInDim S16 ![] bcast_S_S16 (constantI S_ 32 1#32)) (ValueIdx.ix1 j) = BitVec.ofNat 32 (E s (j+1) - 1) := by
      intro v hv
      rw [subi_ap, hv, bc0, constantI_at]
      exact ofNat32_sub (b := 1) (by omega)
    exact e2 _ (h0 j)

theorem s3_v12 (h11 : ∀ j : Fin 16, (W (Proc.devRef .tc main_v11) : IVec S16 32) (ValueIdx.ix1 j) = BitVec.ofNat 32 (T s j)) (j : Fin 16) : (after ops3 W (Proc.devRef .tc main_v12) : IVec S16 32) (ValueIdx.ix1 j) = BitVec.ofNat 32 (I s (j+1)) := by
  after_reads_simp; (try simp -implicitDefEqProofs only [StableHlo.TRef.toBuf, StableHlo.TRef.ofBuf, cast_cast, cast_eq]); clean_types; (try simp only [id_eq])
  exact cumsum1 rfl _ (T s) h11 _ rfl _ _ j

theorem s3_v13 (h11 : ∀ j : Fin 16, (W (Proc.devRef .tc main_v11) : IVec S16 32) (ValueIdx.ix1 j) = BitVec.ofNat 32 (T s j)) (j : Fin 16) : (after ops3 W (Proc.devRef .tc main_v13) : IVec S16 32) (ValueIdx.ix1 j) = BitVec.ofNat 32 (I s j) := by
  have h := s3_v12 W s h11 j
  revert h
  after_reads_simp; (try simp -implicitDefEqProofs only [StableHlo.TRef.toBuf, StableHlo.TRef.ofBuf, cast_cast, cast_eq]); clean_types; (try simp only [id_eq])
  intro h
  refine (subi_ap _ _ _).trans ?_
  refine (congrArg₂ (· - ·) h (h11 j)).trans ?_
  rw [I_succ]
  exact (ofNat32_sub (Nat.le_add_left _ _)).trans (by rw [Nat.add_sub_cancel])

theorem s3_v14 (p : Fin 143) : (after ops3 W (Proc.devRef .tc main_v14) : IVec S143 32) (ValueIdx.ix1 p) = BitVec.ofNat 32 p := by
  after_reads_simp; (try simp -implicitDefEqProofs only [StableHlo.TRef.toBuf, StableHlo.TRef.ofBuf, cast_cast, cast_eq]); clean_types; (try simp only [id_eq])
  rfl

theorem s3_v21 (h11 : ∀ j : Fin 16, (W (Proc.devRef .tc main_v11) : IVec S16 32) (ValueIdx.ix1 j) = BitVec.ofNat 32 (T s j)) (hE : E s 16 = 65536) (p : Fin 143) : (after ops3 W (Proc.devRef .tc main_v21) : IVec S143 32) (ValueIdx.ix1 p) = BitVec.ofNat 32 (grp s p) := by
  have h := s3_v12 W s h11
  revert h
  after_reads_simp; (try simp -implicitDefEqProofs only [StableHlo.TRef.toBuf, StableHlo.TRef.ofBuf, cast_cast, cast_eq]); clean_types; (try simp only [id_eq])
  intro h
  refine reduce_count (by decide) _ _ _ _ p (fun j => I s (j+1) ≤ p) (fun q => ?_)
  rw [cmpi_at, bcRows, bcCols, iota1_ap, h q, cmpi_sge (by have := p.isLt; omega) (by have := I16_le hE; have := I_mono s (Nat.succ_le_of_lt q.isLt); simp only [Nat.succ_eq_add_one] at this; omega), ofBool_one]

theorem s3_v23 (h11 : ∀ j : Fin 16, (W (Proc.devRef .tc main_v11) : IVec S16 32) (ValueIdx.ix1 j) = BitVec.ofNat 32 (T s j)) (hE : E s 16 = 65536) (p : Fin 143) : (after ops3 W (Proc.devRef .tc main_v23) : IVec S143 1) (ValueIdx.ix1 p) = BitVec.ofBool (decide (Live s p)) := by
  have h := s3_v21 W s h11 hE p
  revert h
  after_reads_simp; (try simp -implicitDefEqProofs only [StableHlo.TRef.toBuf, StableHlo.TRef.ofBuf, cast_cast, cast_eq]); clean_types; (try simp only [id_eq])
  intro h
  refine (congrArg₂ (IntOp.cmpi .slt) h ((bc0 _ _ _).trans rfl)).trans ?_
  exact cmpi_slt (Nat.lt_of_le_of_lt (Nat.count_le _) (by decide)) (by decide)

theorem s3_v27 (i : Fin 16) : ∃ k < 16, (after ops4 (after ops3 W) (Proc.devRef .tc main_v27) : IVec S16 32) (ValueIdx.ix1 i) = BitVec.ofNat 32 k := by
  after_reads_simp; (try simp -implicitDefEqProofs only [StableHlo.TRef.toBuf, StableHlo.TRef.ofBuf, cast_cast, cast_eq]); clean_types; (try simp only [id_eq])
  rw [select_at, bc0, iota1_ap]
  unfold Scalar.select
  split
  · exact ⟨i, i.isLt, rfl⟩
  · exact ⟨0, by decide, rfl⟩

theorem s4_v28 (h27 : ∀ i : Fin 16, ∃ k < 16, (after ops4 W (Proc.devRef .tc main_v27) : IVec S16 32) (ValueIdx.ix1 i) = BitVec.ofNat 32 k) :
    ∃ k < 16, (after ops4 W (Proc.devRef .tc main_v28) : IVec S_ 32) ValueIdx.ix0 = BitVec.ofNat 32 k := by
  revert h27
  after_reads_simp; (try simp -implicitDefEqProofs only [StableHlo.TRef.toBuf, StableHlo.TRef.ofBuf, cast_cast, cast_eq]); clean_types; (try simp only [id_eq])
  intro h27
  exact reduce_max _ 16 (by decide) h27 _ _

theorem s4_v29 {L : ℕ} (h28 : (after ops4 W (Proc.devRef .tc main_v28) : IVec S_ 32) ValueIdx.ix0 = BitVec.ofNat 32 L)
    (h21 : ∀ p : Fin 143, (W (Proc.devRef .tc main_v21) : IVec S143 32) (ValueIdx.ix1 p) = BitVec.ofNat 32 (grp s p)) (h23 : ∀ p : Fin 143, (W (Proc.devRef .tc main_v23) : IVec S143 1) (ValueIdx.ix1 p) = BitVec.ofBool (decide (Live s p))) (p : Fin 143) :
    (after ops4 W (Proc.devRef .tc main_v29) : IVec S143 32) (ValueIdx.ix1 p) = BitVec.ofNat 32 (if Live s p then grp s p else L) := by
  revert h28
  after_reads_simp; (try simp -implicitDefEqProofs only [StableHlo.TRef.toBuf, StableHlo.TRef.ofBuf, cast_cast, cast_eq]); clean_types; (try simp only [id_eq])
  intro h28
  rw [select_at, bc0, h21, h23, h28, select_ofNat]

theorem s5_v46 {L : ℕ} (h29 : ∀ p : Fin 143, (W (Proc.devRef .tc main_v29) : IVec S143 32) (ValueIdx.ix1 p) = BitVec.ofNat 32 (if Live s p then grp s p else L)) (h23 : ∀ p : Fin 143, (W (Proc.devRef .tc main_v23) : IVec S143 1) (ValueIdx.ix1 p) = BitVec.ofBool (decide (Live s p)))
    (h2 : ∀ j : Fin 16, (W (Proc.devRef .tc main_v2) : IVec S16 32) (ValueIdx.ix1 j) = BitVec.ofNat 32 (E s j / 512)) (h13 : ∀ j : Fin 16, (W (Proc.devRef .tc main_v13) : IVec S16 32) (ValueIdx.ix1 j) = BitVec.ofNat 32 (I s j)) (h14 : ∀ p : Fin 143, (W (Proc.devRef .tc main_v14) : IVec S143 32) (ValueIdx.ix1 p) = BitVec.ofNat 32 p) (p : Fin 143) :
    (after ops5 W (Proc.devRef .tc main_v46) : IVec S143 32) (ValueIdx.ix1 p) = BitVec.ofNat 32 (tile s p) := by
  after_reads_simp; (try simp -implicitDefEqProofs only [StableHlo.TRef.toBuf, StableHlo.TRef.ofBuf, cast_cast, cast_eq]); clean_types; (try simp only [id_eq])
  rw [select_at, bc0, h23, select_ofBool]
  unfold tile
  by_cases hl : Live s p
  · rw [if_pos hl, if_pos hl, subi_ap, addi_ap, h14]
    have hi := live_bounds s hl
    rw [gather_take1 _ rfl rfl rfl rfl _ _ p ⟨grp s p, hl⟩ (by rw [bcCol, select_at, cmpi_at, bc0, constantI_at, h29, if_pos hl, wrap_ofNat (by omega)]) (by decide),
      gather_take1 _ rfl rfl rfl rfl _ _ p ⟨grp s p, hl⟩ (by rw [bcCol, select_at, cmpi_at, bc0, constantI_at, h29, if_pos hl, wrap_ofNat (by omega)]) (by decide), h2, h13, add_ofNat,
      ofNat32_sub (by have := live_bounds s hl; simp only at *; omega)]
  · rw [if_neg hl, if_neg hl]; rfl

theorem s6_v57 {L : ℕ} (h29 : ∀ p : Fin 143, (W (Proc.devRef .tc main_v29) : IVec S143 32) (ValueIdx.ix1 p) = BitVec.ofNat 32 (if Live s p then grp s p else L)) (h23 : ∀ p : Fin 143, (W (Proc.devRef .tc main_v23) : IVec S143 1) (ValueIdx.ix1 p) = BitVec.ofBool (decide (Live s p)))
    (h1 : ∀ j : Fin 16, (W (Proc.devRef .tc main_v1) : IVec S16 32) (ValueIdx.ix1 j) = BitVec.ofNat 32 (E s j)) (h46 : ∀ p : Fin 143, (W (Proc.devRef .tc main_v46) : IVec S143 32) (ValueIdx.ix1 p) = BitVec.ofNat 32 (tile s p)) (hE : E s 16 = 65536) (p : Fin 143) :
    (after ops6 W (Proc.devRef .tc main_v57) : IVec S143 32) (ValueIdx.ix1 p) = BitVec.ofNat 32 (lo s p) := by
  after_reads_simp; (try simp -implicitDefEqProofs only [StableHlo.TRef.toBuf, StableHlo.TRef.ofBuf, cast_cast, cast_eq]); clean_types; (try simp only [id_eq])
  rw [select_at, bc0, h23, select_ofBool]
  unfold lo
  by_cases hl : Live s p
  · have ht := tile_lt hE p
    have he := E_mono s (Nat.le_of_lt hl)
    rw [if_pos hl, if_pos hl, maxsi_apply, muli_ap, bc0, constantI_at, h46]
    rw [gather_take1 _ rfl rfl rfl rfl _ _ p ⟨grp s p, hl⟩ (by rw [bcCol, select_at, cmpi_at, bc0, constantI_at, h29, if_pos hl, wrap_ofNat (by omega)]) (by decide), h1,
      show (512#32 : BitVec 32) = BitVec.ofNat 32 512 from rfl, mul_ofNat, maxsi_word (by simp only; omega) (by omega)]
  · rw [if_neg hl, if_neg hl]; rfl

theorem s7_v70 {L : ℕ} (h29 : ∀ p : Fin 143, (W (Proc.devRef .tc main_v29) : IVec S143 32) (ValueIdx.ix1 p) = BitVec.ofNat 32 (if Live s p then grp s p else L)) (h23 : ∀ p : Fin 143, (W (Proc.devRef .tc main_v23) : IVec S143 1) (ValueIdx.ix1 p) = BitVec.ofBool (decide (Live s p)))
    (h0 : ∀ j : Fin 16, (W (Proc.devRef .tc main_v0) : IVec S16 32) (ValueIdx.ix1 j) = BitVec.ofNat 32 (E s (j+1))) (h46 : ∀ p : Fin 143, (W (Proc.devRef .tc main_v46) : IVec S143 32) (ValueIdx.ix1 p) = BitVec.ofNat 32 (tile s p)) (hE : E s 16 = 65536) (p : Fin 143) :
    (after ops7 W (Proc.devRef .tc main_v70) : IVec S143 32) (ValueIdx.ix1 p) = BitVec.ofNat 32 (hi s p) := by
  after_reads_simp; (try simp -implicitDefEqProofs only [StableHlo.TRef.toBuf, StableHlo.TRef.ofBuf, cast_cast, cast_eq]); clean_types; (try simp only [id_eq])
  rw [select_at, bc0, h23, select_ofBool]
  unfold hi
  by_cases hl : Live s p
  · have ht := tile_lt hE p
    have he : E s (grp s p + 1) ≤ E s 16 := E_mono s (Nat.succ_le_of_lt hl)
    rw [if_pos hl, if_pos hl, minsi_apply, muli_ap, addi_ap, bc0, bc0, constantI_at, constantI_at, h46]
    rw [gather_take1 _ rfl rfl rfl rfl _ _ p ⟨grp s p, hl⟩ (by rw [bcCol, select_at, cmpi_at, bc0, constantI_at, h29, if_pos hl, wrap_ofNat (by omega)]) (by decide), h0,
      show (512#32 : BitVec 32) = BitVec.ofNat 32 512 from rfl, show (1#32 : BitVec 32) = BitVec.ofNat 32 1 from rfl, add_ofNat, mul_ofNat]
    rw [minsi_word (by simp only; omega) (by omega), Nat.min_comm]
  · rw [if_neg hl, if_neg hl]; rfl

theorem keep1_arg4 : after ops1 W (Proc.devRef .tc main_arg4) = W (Proc.devRef .tc main_arg4) := by
  after_reads_simp

theorem keep2_v0 : after ops2 W (Proc.devRef .tc main_v0) = W (Proc.devRef .tc main_v0) := by
  after_reads_simp

theorem keep3_v0 : after ops3 W (Proc.devRef .tc main_v0) = W (Proc.devRef .tc main_v0) := by
  after_reads_simp

theorem keep4_v0 : after ops4 W (Proc.devRef .tc main_v0) = W (Proc.devRef .tc main_v0) := by
  after_reads_simp

theorem keep5_v0 : after ops5 W (Proc.devRef .tc main_v0) = W (Proc.devRef .tc main_v0) := by
  after_reads_simp

theorem keep6_v0 : after ops6 W (Proc.devRef .tc main_v0) = W (Proc.devRef .tc main_v0) := by
  after_reads_simp

theorem keep2_v1 : after ops2 W (Proc.devRef .tc main_v1) = W (Proc.devRef .tc main_v1) := by
  after_reads_simp

theorem keep3_v1 : after ops3 W (Proc.devRef .tc main_v1) = W (Proc.devRef .tc main_v1) := by
  after_reads_simp

theorem keep4_v1 : after ops4 W (Proc.devRef .tc main_v1) = W (Proc.devRef .tc main_v1) := by
  after_reads_simp

theorem keep5_v1 : after ops5 W (Proc.devRef .tc main_v1) = W (Proc.devRef .tc main_v1) := by
  after_reads_simp

theorem keep2_v2 : after ops2 W (Proc.devRef .tc main_v2) = W (Proc.devRef .tc main_v2) := by
  after_reads_simp

theorem keep3_v2 : after ops3 W (Proc.devRef .tc main_v2) = W (Proc.devRef .tc main_v2) := by
  after_reads_simp

theorem keep4_v2 : after ops4 W (Proc.devRef .tc main_v2) = W (Proc.devRef .tc main_v2) := by
  after_reads_simp

theorem keep4_v13 : after ops4 W (Proc.devRef .tc main_v13) = W (Proc.devRef .tc main_v13) := by
  after_reads_simp

theorem keep4_v14 : after ops4 W (Proc.devRef .tc main_v14) = W (Proc.devRef .tc main_v14) := by
  after_reads_simp

theorem keep4_v23 : after ops4 W (Proc.devRef .tc main_v23) = W (Proc.devRef .tc main_v23) := by
  after_reads_simp

theorem keep5_v23 : after ops5 W (Proc.devRef .tc main_v23) = W (Proc.devRef .tc main_v23) := by
  after_reads_simp

theorem keep6_v23 : after ops6 W (Proc.devRef .tc main_v23) = W (Proc.devRef .tc main_v23) := by
  after_reads_simp

theorem keep5_v29 : after ops5 W (Proc.devRef .tc main_v29) = W (Proc.devRef .tc main_v29) := by
  after_reads_simp

theorem keep6_v29 : after ops6 W (Proc.devRef .tc main_v29) = W (Proc.devRef .tc main_v29) := by
  after_reads_simp

theorem keep7_v29 : after ops7 W (Proc.devRef .tc main_v29) = W (Proc.devRef .tc main_v29) := by
  after_reads_simp

theorem keep6_v46 : after ops6 W (Proc.devRef .tc main_v46) = W (Proc.devRef .tc main_v46) := by
  after_reads_simp

theorem keep7_v46 : after ops7 W (Proc.devRef .tc main_v46) = W (Proc.devRef .tc main_v46) := by
  after_reads_simp

theorem keep7_v57 : after ops7 W (Proc.devRef .tc main_v57) = W (Proc.devRef .tc main_v57) := by
  after_reads_simp

theorem keep1_arg1 : after ops1 W (Proc.devRef .tc main_arg1) = W (Proc.devRef .tc main_arg1) := by
  after_reads_simp

theorem keep2_arg1 : after ops2 W (Proc.devRef .tc main_arg1) = W (Proc.devRef .tc main_arg1) := by
  after_reads_simp

theorem keep3_arg1 : after ops3 W (Proc.devRef .tc main_arg1) = W (Proc.devRef .tc main_arg1) := by
  after_reads_simp

theorem keep4_arg1 : after ops4 W (Proc.devRef .tc main_arg1) = W (Proc.devRef .tc main_arg1) := by
  after_reads_simp

theorem keep5_arg1 : after ops5 W (Proc.devRef .tc main_arg1) = W (Proc.devRef .tc main_arg1) := by
  after_reads_simp

theorem keep6_arg1 : after ops6 W (Proc.devRef .tc main_arg1) = W (Proc.devRef .tc main_arg1) := by
  after_reads_simp

theorem keep7_arg1 : after ops7 W (Proc.devRef .tc main_arg1) = W (Proc.devRef .tc main_arg1) := by
  after_reads_simp

theorem keep1_arg3 : after ops1 W (Proc.devRef .tc main_arg3) = W (Proc.devRef .tc main_arg3) := by
  after_reads_simp

theorem keep2_arg3 : after ops2 W (Proc.devRef .tc main_arg3) = W (Proc.devRef .tc main_arg3) := by
  after_reads_simp

theorem keep3_arg3 : after ops3 W (Proc.devRef .tc main_arg3) = W (Proc.devRef .tc main_arg3) := by
  after_reads_simp

theorem keep4_arg3 : after ops4 W (Proc.devRef .tc main_arg3) = W (Proc.devRef .tc main_arg3) := by
  after_reads_simp

theorem keep5_arg3 : after ops5 W (Proc.devRef .tc main_arg3) = W (Proc.devRef .tc main_arg3) := by
  after_reads_simp

theorem keep6_arg3 : after ops6 W (Proc.devRef .tc main_arg3) = W (Proc.devRef .tc main_arg3) := by
  after_reads_simp

theorem keep7_arg3 : after ops7 W (Proc.devRef .tc main_arg3) = W (Proc.devRef .tc main_arg3) := by
  after_reads_simp

theorem cat5_ap {α : Type} (h5 : Shape.Concatenates [S1x143, S1x143, S1x143, S1x143, S1x143] S5x143 0) (v0 v1 v2 v3 v4 : S1x143.Idx → α) (r : Fin 143) :
    concatenate S5x143 0 [⟨S1x143, v0⟩, ⟨S1x143, v1⟩, ⟨S1x143, v2⟩, ⟨S1x143, v3⟩, ⟨S1x143, v4⟩] h5 (ValueIdx.ix2 (0 : Fin 5) r) = v0 (ValueIdx.ix2 (0 : Fin 1) r)
      ∧ concatenate S5x143 0 [⟨S1x143, v0⟩, ⟨S1x143, v1⟩, ⟨S1x143, v2⟩, ⟨S1x143, v3⟩, ⟨S1x143, v4⟩] h5 (ValueIdx.ix2 (1 : Fin 5) r) = v1 (ValueIdx.ix2 (0 : Fin 1) r)
      ∧ concatenate S5x143 0 [⟨S1x143, v0⟩, ⟨S1x143, v1⟩, ⟨S1x143, v2⟩, ⟨S1x143, v3⟩, ⟨S1x143, v4⟩] h5 (ValueIdx.ix2 (2 : Fin 5) r) = v2 (ValueIdx.ix2 (0 : Fin 1) r)
      ∧ concatenate S5x143 0 [⟨S1x143, v0⟩, ⟨S1x143, v1⟩, ⟨S1x143, v2⟩, ⟨S1x143, v3⟩, ⟨S1x143, v4⟩] h5 (ValueIdx.ix2 (3 : Fin 5) r) = v3 (ValueIdx.ix2 (0 : Fin 1) r)
      ∧ concatenate S5x143 0 [⟨S1x143, v0⟩, ⟨S1x143, v1⟩, ⟨S1x143, v2⟩, ⟨S1x143, v3⟩, ⟨S1x143, v4⟩] h5 (ValueIdx.ix2 (4 : Fin 5) r) = v4 (ValueIdx.ix2 (0 : Fin 1) r) := by
  have off : ∀ (y : Fin 5) (b : Fin S1x143.rank), b.cast (rfl : S1x143.rank = S5x143.rank) ≠ (0 : Fin S5x143.rank) →
      ((ValueIdx.ix2 (0 : Fin 1) r : S1x143.Idx) b).val = ((ValueIdx.ix2 y r : S5x143.Idx) (b.cast rfl)).val := fun y b hb =>
    match b, hb with | ⟨1, _⟩, _ => rfl | ⟨0, _⟩, hb => absurd rfl hb
  let xs : List ((s : Shape) × (s.Idx → α)) := [⟨S1x143, v0⟩, ⟨S1x143, v1⟩, ⟨S1x143, v2⟩, ⟨S1x143, v3⟩, ⟨S1x143, v4⟩]
  exact ⟨concatenate_apply_piece (t := S5x143) 0 xs h5 (ValueIdx.ix2 (0 : Fin 5) r) 0 (by show 0 < 5; omega) S1x143 v0 rfl rfl 0 rfl (ValueIdx.ix2 (0 : Fin 1) r) (off 0) rfl,
    concatenate_apply_piece (t := S5x143) 0 xs h5 (ValueIdx.ix2 (1 : Fin 5) r) 1 (by show 1 < 5; omega) S1x143 v1 rfl rfl 1 rfl (ValueIdx.ix2 (0 : Fin 1) r) (off 1) rfl,
    concatenate_apply_piece (t := S5x143) 0 xs h5 (ValueIdx.ix2 (2 : Fin 5) r) 2 (by show 2 < 5; omega) S1x143 v2 rfl rfl 2 rfl (ValueIdx.ix2 (0 : Fin 1) r) (off 2) rfl,
    concatenate_apply_piece (t := S5x143) 0 xs h5 (ValueIdx.ix2 (3 : Fin 5) r) 3 (by show 3 < 5; omega) S1x143 v3 rfl rfl 3 rfl (ValueIdx.ix2 (0 : Fin 1) r) (off 3) rfl,
    concatenate_apply_piece (t := S5x143) 0 xs h5 (ValueIdx.ix2 (4 : Fin 5) r) 4 (by show 4 < 5; omega) S1x143 v4 rfl rfl 4 rfl (ValueIdx.ix2 (0 : Fin 1) r) (off 4) rfl⟩

theorem row_ap {α : Type} (h : S143.BroadcastsInDim S1x143 (![1] : Fin 1 → Fin S1x143.rank)) (v : S143.Idx → α) (q : Fin 143) :
    broadcastInDim S1x143 ![1] h v (ValueIdx.ix2 (0 : Fin 1) q) = v (ValueIdx.ix1 q) := by
  refine broadcastInDim_apply _ h v _ _ fun a => ?_
  match a with
  | ⟨0, _⟩ => rfl

/-- The mark of an item whose tile is not the tile of the item before. -/
theorem mark_ap (x : IVec S143 32) (c : BitVec 32) (hx : ∀ p : Fin 143, x (ValueIdx.ix1 p) = BitVec.ofNat 32 (tile s p)) (ht : ∀ i, tile s i < 128) (hc : c = 4294967295#32) (p : Fin 143) :
    extui 32 (cmpi .ne x (concatenate S143 0 [⟨S1, broadcastInDim S1 ![] bcast_S_S1 (constantI S_ 32 c)⟩, ⟨S142, extractStridedSlice S142 ![0] x slices_S143_S142_0⟩] concatenates_S1_S142_S143_d0)) natLt_1_32 (ValueIdx.ix1 p)
      = BitVec.ofNat 32 (if First s p then 1 else 0) := by
  have hcat : (concatenate S143 0 [⟨S1, broadcastInDim S1 ![] bcast_S_S1 (constantI S_ 32 c)⟩, ⟨S142, extractStridedSlice S142 ![0] x slices_S143_S142_0⟩] concatenates_S1_S142_S143_d0) (ValueIdx.ix1 p)
      = BitVec.ofNat 32 (if p.val = 0 then 4294967295 else tile s (p.val - 1)) := by
    by_cases hp : p.val = 0
    · rw [if_pos hp]
      refine (concatenate_pair_apply_left (t := S143) (s₁ := S1) (s₂ := S142) 0 _ _ _ (ValueIdx.ix1 p) rfl (ValueIdx.ix1 (0 : Fin 1)) fun b => ?_).trans ?_
      · match b with
        | ⟨0, _⟩ => exact hp.symm
      · rw [bc0, constantI_at, hc]
    · rw [if_neg hp]
      refine (concatenate_pair_apply_right (t := S143) (s₁ := S1) (s₂ := S142) 0 _ _ _ (ValueIdx.ix1 p) rfl rfl (ValueIdx.ix1 (⟨p.val - 1, by omega⟩ : Fin 142)) (fun b hb => ?_) ?_).trans ?_
      · match b, hb with
        | ⟨0, _⟩, hb => exact absurd rfl hb
      · show p.val - 1 + 1 = p.val
        omega
      · refine (slice1 0 x slices_S143_S142_0 _ (by show 0 + (p.val - 1) < 143; omega)).trans ?_
        refine (hx _).trans ?_
        show BitVec.ofNat 32 (tile s (0 + (p.val - 1))) = _
        rw [Nat.zero_add]
  rw [extui_at, cmpi_at, hcat, hx, cmpi_ne (by have := ht p; omega) (by have := ht (p - 1); split <;> omega)]
  have hiff : (tile s p ≠ if p.val = 0 then 4294967295 else tile s (p.val - 1)) ↔ First s p := by
    unfold First
    by_cases hp : p.val = 0
    · rw [if_pos hp]; exact ⟨fun _ => Or.inl hp, fun _ => by have := ht p; omega⟩
    · rw [if_neg hp]; exact ⟨fun h => Or.inr h, fun h => h.resolve_left hp⟩
  by_cases hf : First s p
  · rw [if_pos hf, decide_eq_true (hiff.mpr hf)]; rfl
  · rw [if_neg hf, decide_eq_false (fun h => hf (hiff.mp h))]; rfl

/-- The five rows of the table. -/
def Rows (x : IVec S5x143 32) (L : ℕ) : Prop := ∀ p : Fin 143,
  x (ValueIdx.ix2 (0 : Fin 5) p) = BitVec.ofNat 32 (tile s p) ∧ x (ValueIdx.ix2 (1 : Fin 5) p) = BitVec.ofNat 32 (if Live s p then grp s p else L)
    ∧ x (ValueIdx.ix2 (2 : Fin 5) p) = BitVec.ofNat 32 (lo s p) ∧ x (ValueIdx.ix2 (3 : Fin 5) p) = BitVec.ofNat 32 (hi s p)
    ∧ x (ValueIdx.ix2 (4 : Fin 5) p) = BitVec.ofNat 32 (if First s p then 1 else 0)

abbrev ops8a : List (HloOp τ sig (Elt F)) :=
  [ StableHlo.nullary main_c_24 (constantI S_ 32 4294967295#32),
    StableHlo.unary main_c_24 main_v71 (broadcastInDim S1 ![] bcast_S_S1 : (⟨S_, .i32⟩ : BufTy).Contents (Elt F) → (⟨S1, .i32⟩ : BufTy).Contents (Elt F)),
    StableHlo.unary main_v46 main_v72 ((extractStridedSlice S142 ![0] · slices_S143_S142_0) : (⟨S143, .i32⟩ : BufTy).Contents (Elt F) → (⟨S142, .i32⟩ : BufTy).Contents (Elt F)),
    StableHlo.binary main_v71 main_v72 main_v73 ((fun a b => concatenate S143 0 [⟨S1, a⟩, ⟨S142, b⟩] concatenates_S1_S142_S143_d0) : (⟨S1, .i32⟩ : BufTy).Contents (Elt F) → (⟨S142, .i32⟩ : BufTy).Contents (Elt F) → (⟨S143, .i32⟩ : BufTy).Contents (Elt F)),
    StableHlo.binary main_v46 main_v73 main_v74 (cmpi .ne : (⟨S143, .i32⟩ : BufTy).Contents (Elt F) → (⟨S143, .i32⟩ : BufTy).Contents (Elt F) → (⟨S143, .i1⟩ : BufTy).Contents (Elt F)),
    StableHlo.unary main_v74 main_v75 ((extui 32 · natLt_1_32) : (⟨S143, .i1⟩ : BufTy).Contents (Elt F) → (⟨S143, .i32⟩ : BufTy).Contents (Elt F)),
    StableHlo.unary main_v46 main_v76 (broadcastInDim S1x143 ![1] bcast_S143_S1x143_1 : (⟨S143, .i32⟩ : BufTy).Contents (Elt F) → (⟨S1x143, .i32⟩ : BufTy).Contents (Elt F)),
    StableHlo.unary main_v29 main_v77 (broadcastInDim S1x143 ![1] bcast_S143_S1x143_1 : (⟨S143, .i32⟩ : BufTy).Contents (Elt F) → (⟨S1x143, .i32⟩ : BufTy).Contents (Elt F)),
    StableHlo.unary main_v57 main_v78 (broadcastInDim S1x143 ![1] bcast_S143_S1x143_1 : (⟨S143, .i32⟩ : BufTy).Contents (Elt F) → (⟨S1x143, .i32⟩ : BufTy).Contents (Elt F)),
    StableHlo.unary main_v70 main_v79 (broadcastInDim S1x143 ![1] bcast_S143_S1x143_1 : (⟨S143, .i32⟩ : BufTy).Contents (Elt F) → (⟨S1x143, .i32⟩ : BufTy).Contents (Elt F)),
    StableHlo.unary main_v75 main_v80 (broadcastInDim S1x143 ![1] bcast_S143_S1x143_1 : (⟨S143, .i32⟩ : BufTy).Contents (Elt F) → (⟨S1x143, .i32⟩ : BufTy).Contents (Elt F)) ]

abbrev ops8b : List (HloOp τ sig (Elt F)) :=
  [ StableHlo.nary ![main_v76, main_v77, main_v78, main_v79, main_v80] main_v81 (fun u => (concatenate S5x143 0 [⟨S1x143, (u 0 : (⟨S1x143, .i32⟩ : BufTy).Contents (Elt F))⟩, ⟨S1x143, (u 1 : (⟨S1x143, .i32⟩ : BufTy).Contents (Elt F))⟩, ⟨S1x143, (u 2 : (⟨S1x143, .i32⟩ : BufTy).Contents (Elt F))⟩, ⟨S1x143, (u 3 : (⟨S1x143, .i32⟩ : BufTy).Contents (Elt F))⟩, ⟨S1x143, (u 4 : (⟨S1x143, .i32⟩ : BufTy).Contents (Elt F))⟩] concatenates_S1x143_S1x143_S1x143_S1x143_S1x143_S5x143_d0 : (⟨S5x143, .i32⟩ : BufTy).Contents (Elt F))),
    StableHlo.reshape main_arg1 main_v82 (rfl : (.f32 : EltTy) = .f32) shapeCasts_S65536_S65536x1,
    StableHlo.reshape main_arg3 main_v83 (rfl : (.f32 : EltTy) = .f32) shapeCasts_S16x3072_S16x1x3072 ]

theorem s8a {L : ℕ} (h46 : ∀ p : Fin 143, (W (Proc.devRef .tc main_v46) : IVec S143 32) (ValueIdx.ix1 p) = BitVec.ofNat 32 (tile s p)) (h29 : ∀ p : Fin 143, (W (Proc.devRef .tc main_v29) : IVec S143 32) (ValueIdx.ix1 p) = BitVec.ofNat 32 (if Live s p then grp s p else L))
    (h57 : ∀ p : Fin 143, (W (Proc.devRef .tc main_v57) : IVec S143 32) (ValueIdx.ix1 p) = BitVec.ofNat 32 (lo s p)) (h70 : ∀ p : Fin 143, (W (Proc.devRef .tc main_v70) : IVec S143 32) (ValueIdx.ix1 p) = BitVec.ofNat 32 (hi s p)) (ht : ∀ i, tile s i < 128) (p : Fin 143) :
    (after ops8a W (Proc.devRef .tc main_v76) : IVec S1x143 32) (ValueIdx.ix2 (0 : Fin 1) p) = BitVec.ofNat 32 (tile s p)
    ∧ (after ops8a W (Proc.devRef .tc main_v77) : IVec S1x143 32) (ValueIdx.ix2 (0 : Fin 1) p) = BitVec.ofNat 32 (if Live s p then grp s p else L)
    ∧ (after ops8a W (Proc.devRef .tc main_v78) : IVec S1x143 32) (ValueIdx.ix2 (0 : Fin 1) p) = BitVec.ofNat 32 (lo s p)
    ∧ (after ops8a W (Proc.devRef .tc main_v79) : IVec S1x143 32) (ValueIdx.ix2 (0 : Fin 1) p) = BitVec.ofNat 32 (hi s p)
    ∧ (after ops8a W (Proc.devRef .tc main_v80) : IVec S1x143 32) (ValueIdx.ix2 (0 : Fin 1) p) = BitVec.ofNat 32 (if First s p then 1 else 0) := by
  refine ⟨?_, ?_, ?_, ?_, ?_⟩
  · after_reads_simp; (try simp -implicitDefEqProofs only [StableHlo.TRef.toBuf, StableHlo.TRef.ofBuf, cast_cast, cast_eq]); clean_types; (try simp only [id_eq])
    exact (row_ap _ _ p).trans (h46 p)
  · after_reads_simp; (try simp -implicitDefEqProofs only [StableHlo.TRef.toBuf, StableHlo.TRef.ofBuf, cast_cast, cast_eq]); clean_types; (try simp only [id_eq])
    exact (row_ap _ _ p).trans (h29 p)
  · after_reads_simp; (try simp -implicitDefEqProofs only [StableHlo.TRef.toBuf, StableHlo.TRef.ofBuf, cast_cast, cast_eq]); clean_types; (try simp only [id_eq])
    exact (row_ap _ _ p).trans (h57 p)
  · after_reads_simp; (try simp -implicitDefEqProofs only [StableHlo.TRef.toBuf, StableHlo.TRef.ofBuf, cast_cast, cast_eq]); clean_types; (try simp only [id_eq])
    exact (row_ap _ _ p).trans (h70 p)
  · after_reads_simp; (try simp -implicitDefEqProofs only [StableHlo.TRef.toBuf, StableHlo.TRef.ofBuf, cast_cast, cast_eq]); clean_types; (try simp only [id_eq])
    exact (row_ap _ _ p).trans (mark_ap s _ _ h46 ht rfl p)

theorem s8b {L : ℕ} (h : ∀ p : Fin 143, (W (Proc.devRef .tc main_v76) : IVec S1x143 32) (ValueIdx.ix2 (0 : Fin 1) p) = BitVec.ofNat 32 (tile s p)
    ∧ (W (Proc.devRef .tc main_v77) : IVec S1x143 32) (ValueIdx.ix2 (0 : Fin 1) p) = BitVec.ofNat 32 (if Live s p then grp s p else L)
    ∧ (W (Proc.devRef .tc main_v78) : IVec S1x143 32) (ValueIdx.ix2 (0 : Fin 1) p) = BitVec.ofNat 32 (lo s p)
    ∧ (W (Proc.devRef .tc main_v79) : IVec S1x143 32) (ValueIdx.ix2 (0 : Fin 1) p) = BitVec.ofNat 32 (hi s p)
    ∧ (W (Proc.devRef .tc main_v80) : IVec S1x143 32) (ValueIdx.ix2 (0 : Fin 1) p) = BitVec.ofNat 32 (if First s p then 1 else 0)) :
    Rows s (after ops8b W (Proc.devRef .tc main_v81) : IVec S5x143 32) L := by
  intro p
  after_reads_simp; (try simp -implicitDefEqProofs only [StableHlo.TRef.toBuf, StableHlo.TRef.ofBuf, cast_cast, cast_eq]); clean_types; (try simp only [id_eq])
  obtain ⟨h0, h1, h2, h3, h4⟩ := cat5_ap concatenates_S1x143_S1x143_S1x143_S1x143_S1x143_S5x143_d0 (W (Proc.devRef .tc main_v76) : IVec S1x143 32) (W (Proc.devRef .tc main_v77) : IVec S1x143 32)
    (W (Proc.devRef .tc main_v78) : IVec S1x143 32) (W (Proc.devRef .tc main_v79) : IVec S1x143 32) (W (Proc.devRef .tc main_v80) : IVec S1x143 32) p
  obtain ⟨g0, g1, g2, g3, g4⟩ := h p
  exact ⟨h0.trans g0, h1.trans g1, h2.trans g2, h3.trans g3, h4.trans g4⟩

theorem after_two (l k : List (HloOp τ sig (Elt F))) (W : Valuation τ sig (Elt F)) : after (l ++ k) W = after k (after l W) := by
  induction l generalizing W with
  | nil => rfl
  | cons op l ih => exact ih _

theorem lines_eq : hostLines (F := F).flatten = ops1 ++ (ops2 ++ (ops3 ++ (ops4 ++ (ops5 ++ (ops6 ++ (ops7 ++ (ops8a ++ ops8b))))))) := rfl

theorem after_lines (W : Valuation τ sig (Elt F)) : after hostLines.flatten W = after ops8b (after ops8a (after ops7 (after ops6 (after ops5 (after ops4 (after ops3 (after ops2 (after ops1 W)))))))) := by
  rw [lines_eq]
  simp only [after_two]

/-- The table that the host lines leave, from the sizes of the groups. -/
theorem table_rows (hx : ∀ j : Fin 16, (W (Proc.devRef .tc main_arg4) : IVec S16 32) (ValueIdx.ix1 j) = BitVec.ofNat 32 (s j)) (hE : E s 16 = 65536) :
    ∃ L < 16, Rows s (after hostLines.flatten W (Proc.devRef .tc main_v81) : IVec S5x143 32) L := by
  have a0 := s1_v0 W s hx
  have a1 := s1_v1 W s hx
  have a2 := s1_v2 W s hx hE
  have ax : ∀ j : Fin 16, (after ops1 W (Proc.devRef .tc main_arg4) : IVec S16 32) (ValueIdx.ix1 j) = BitVec.ofNat 32 (s j) := fun j => (congrFun (keep1_arg4 W) _).trans (hx j)
  rw [after_lines]
  generalize after ops1 W = W1 at a0 a1 a2 ax ⊢
  have b11 := s2_v11 W1 s ax a0 a2 hE
  have b0 : ∀ j : Fin 16, (after ops2 W1 (Proc.devRef .tc main_v0) : IVec S16 32) (ValueIdx.ix1 j) = _ := fun j => (congrFun (keep2_v0 W1) _).trans (a0 j)
  have b1 : ∀ j : Fin 16, (after ops2 W1 (Proc.devRef .tc main_v1) : IVec S16 32) (ValueIdx.ix1 j) = _ := fun j => (congrFun (keep2_v1 W1) _).trans (a1 j)
  have b2 : ∀ j : Fin 16, (after ops2 W1 (Proc.devRef .tc main_v2) : IVec S16 32) (ValueIdx.ix1 j) = _ := fun j => (congrFun (keep2_v2 W1) _).trans (a2 j)
  clear a0 a1 a2 ax
  generalize after ops2 W1 = W2 at b11 b0 b1 b2 ⊢
  have c0 : ∀ j : Fin 16, (after ops3 W2 (Proc.devRef .tc main_v0) : IVec S16 32) (ValueIdx.ix1 j) = _ := fun j => (congrFun (keep3_v0 W2) _).trans (b0 j)
  have c1 : ∀ j : Fin 16, (after ops3 W2 (Proc.devRef .tc main_v1) : IVec S16 32) (ValueIdx.ix1 j) = _ := fun j => (congrFun (keep3_v1 W2) _).trans (b1 j)
  have c2 : ∀ j : Fin 16, (after ops3 W2 (Proc.devRef .tc main_v2) : IVec S16 32) (ValueIdx.ix1 j) = _ := fun j => (congrFun (keep3_v2 W2) _).trans (b2 j)
  have c13 := s3_v13 W2 s b11
  have c14 := s3_v14 W2
  have c21 := s3_v21 W2 s b11 hE
  have c23 := s3_v23 W2 s b11 hE
  have c27 := s3_v27 W2
  clear b0 b1 b2
  generalize after ops3 W2 = W3 at c0 c1 c2 c13 c14 c21 c23 c27 ⊢
  obtain ⟨L, hL, c28⟩ := s4_v28 W3 c27
  refine ⟨L, hL, ?_⟩
  have d29 := s4_v29 W3 s c28 c21 c23
  have d0 : ∀ j : Fin 16, (after ops4 W3 (Proc.devRef .tc main_v0) : IVec S16 32) (ValueIdx.ix1 j) = _ := fun j => (congrFun (keep4_v0 W3) _).trans (c0 j)
  have d1 : ∀ j : Fin 16, (after ops4 W3 (Proc.devRef .tc main_v1) : IVec S16 32) (ValueIdx.ix1 j) = _ := fun j => (congrFun (keep4_v1 W3) _).trans (c1 j)
  have d2 : ∀ j : Fin 16, (after ops4 W3 (Proc.devRef .tc main_v2) : IVec S16 32) (ValueIdx.ix1 j) = _ := fun j => (congrFun (keep4_v2 W3) _).trans (c2 j)
  have d13 : ∀ j : Fin 16, (after ops4 W3 (Proc.devRef .tc main_v13) : IVec S16 32) (ValueIdx.ix1 j) = _ := fun j => (congrFun (keep4_v13 W3) _).trans (c13 j)
  have d14 : ∀ j : Fin 143, (after ops4 W3 (Proc.devRef .tc main_v14) : IVec S143 32) (ValueIdx.ix1 j) = _ := fun j => (congrFun (keep4_v14 W3) _).trans (c14 j)
  have d23 : ∀ j : Fin 143, (after ops4 W3 (Proc.devRef .tc main_v23) : IVec S143 1) (ValueIdx.ix1 j) = _ := fun j => (congrFun (keep4_v23 W3) _).trans (c23 j)
  clear c0 c1 c2 c13 c14 c21 c23 c27 c28
  generalize after ops4 W3 = W4 at d29 d0 d1 d2 d13 d14 d23 ⊢
  have e46 := s5_v46 W4 s d29 d23 d2 d13 d14
  have e0 : ∀ j : Fin 16, (after ops5 W4 (Proc.devRef .tc main_v0) : IVec S16 32) (ValueIdx.ix1 j) = _ := fun j => (congrFun (keep5_v0 W4) _).trans (d0 j)
  have e1 : ∀ j : Fin 16, (after ops5 W4 (Proc.devRef .tc main_v1) : IVec S16 32) (ValueIdx.ix1 j) = _ := fun j => (congrFun (keep5_v1 W4) _).trans (d1 j)
  have e23 : ∀ j : Fin 143, (after ops5 W4 (Proc.devRef .tc main_v23) : IVec S143 1) (ValueIdx.ix1 j) = _ := fun j => (congrFun (keep5_v23 W4) _).trans (d23 j)
  have e29 : ∀ j : Fin 143, (after ops5 W4 (Proc.devRef .tc main_v29) : IVec S143 32) (ValueIdx.ix1 j) = _ := fun j => (congrFun (keep5_v29 W4) _).trans (d29 j)
  clear d29 d0 d1 d2 d13 d14 d23
  generalize after ops5 W4 = W5 at e46 e0 e1 e23 e29 ⊢
  have f57 := s6_v57 W5 s e29 e23 e1 e46 hE
  have f0 : ∀ j : Fin 16, (after ops6 W5 (Proc.devRef .tc main_v0) : IVec S16 32) (ValueIdx.ix1 j) = _ := fun j => (congrFun (keep6_v0 W5) _).trans (e0 j)
  have f23 : ∀ j : Fin 143, (after ops6 W5 (Proc.devRef .tc main_v23) : IVec S143 1) (ValueIdx.ix1 j) = _ := fun j => (congrFun (keep6_v23 W5) _).trans (e23 j)
  have f29 : ∀ j : Fin 143, (after ops6 W5 (Proc.devRef .tc main_v29) : IVec S143 32) (ValueIdx.ix1 j) = _ := fun j => (congrFun (keep6_v29 W5) _).trans (e29 j)
  have f46 : ∀ j : Fin 143, (after ops6 W5 (Proc.devRef .tc main_v46) : IVec S143 32) (ValueIdx.ix1 j) = _ := fun j => (congrFun (keep6_v46 W5) _).trans (e46 j)
  clear e46 e0 e1 e23 e29
  generalize after ops6 W5 = W6 at f57 f0 f23 f29 f46 ⊢
  have g70 := s7_v70 W6 s f29 f23 f0 f46 hE
  have g29 : ∀ j : Fin 143, (after ops7 W6 (Proc.devRef .tc main_v29) : IVec S143 32) (ValueIdx.ix1 j) = _ := fun j => (congrFun (keep7_v29 W6) _).trans (f29 j)
  have g46 : ∀ j : Fin 143, (after ops7 W6 (Proc.devRef .tc main_v46) : IVec S143 32) (ValueIdx.ix1 j) = _ := fun j => (congrFun (keep7_v46 W6) _).trans (f46 j)
  have g57 : ∀ j : Fin 143, (after ops7 W6 (Proc.devRef .tc main_v57) : IVec S143 32) (ValueIdx.ix1 j) = _ := fun j => (congrFun (keep7_v57 W6) _).trans (f57 j)
  clear f57 f0 f23 f29 f46
  generalize after ops7 W6 = W7 at g70 g29 g46 g57 ⊢
  exact s8b _ s (s8a W7 s g46 g29 g57 g70 (tile_lt hE))

theorem lines_v82 (W : Valuation τ sig (Elt F)) : (after hostLines.flatten W (Proc.devRef .tc main_v82) : (⟨S65536x1, .f32⟩ : BufTy).Contents (Elt F)) = shapeCast S65536x1 (W (Proc.devRef .tc main_arg1)) shapeCasts_S65536_S65536x1 := by
  rw [after_lines]
  refine Eq.trans (b := shapeCast S65536x1 (after ops7 (after ops6 (after ops5 (after ops4 (after ops3 (after ops2 (after ops1 W)))))) (Proc.devRef .tc main_arg1)) shapeCasts_S65536_S65536x1) ?_ ?_
  · generalize after ops7 (after ops6 (after ops5 (after ops4 (after ops3 (after ops2 (after ops1 W)))))) = W7
    after_reads_simp; (try simp -implicitDefEqProofs only [StableHlo.TRef.toBuf, StableHlo.TRef.ofBuf, cast_cast, cast_eq]); clean_types; (try simp only [id_eq])
    rfl
  · rw [keep7_arg1, keep6_arg1, keep5_arg1, keep4_arg1, keep3_arg1, keep2_arg1, keep1_arg1]

theorem lines_v83 (W : Valuation τ sig (Elt F)) : (after hostLines.flatten W (Proc.devRef .tc main_v83) : (⟨S16x1x3072, .f32⟩ : BufTy).Contents (Elt F)) = shapeCast S16x1x3072 (W (Proc.devRef .tc main_arg3)) shapeCasts_S16x3072_S16x1x3072 := by
  rw [after_lines]
  refine Eq.trans (b := shapeCast S16x1x3072 (after ops7 (after ops6 (after ops5 (after ops4 (after ops3 (after ops2 (after ops1 W)))))) (Proc.devRef .tc main_arg3)) shapeCasts_S16x3072_S16x1x3072) ?_ ?_
  · generalize after ops7 (after ops6 (after ops5 (after ops4 (after ops3 (after ops2 (after ops1 W)))))) = W7
    after_reads_simp; (try simp -implicitDefEqProofs only [StableHlo.TRef.toBuf, StableHlo.TRef.ofBuf, cast_cast, cast_eq]); clean_types; (try simp only [id_eq])
    rfl
  · rw [keep7_arg3, keep6_arg3, keep5_arg3, keep4_arg3, keep3_arg3, keep2_arg3, keep1_arg3]

end Cert.Kernel.Gen

end
-- ==== Proof.KernelBody.lean ====
/- The kernel's body run in its three cases: a work item that covers a whole tile, one that covers part of it, and one without rows. -/
module

public import proofs.«01_k».proof.Proof.KernelRuns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table's words at a work item -/

/-- The tile of work item `i`, -/
abbrev wTile (pf : pre0.Contents (Elt F)) (i : grid0.Coords) : BitVec 32 := pf.at 0 (Rect.unit (s := S5x143) (k0_off1 i) S1x1.size (k0_off1_inb i)) numel1_S1x1
/-- its first row, -/
abbrev wLo (pf : pre0.Contents (Elt F)) (i : grid0.Coords) : BitVec 32 := pf.at 0 (Rect.unit (s := S5x143) (k0_off3 i) S1x1.size (k0_off3_inb i)) numel1_S1x1
/-- the row after its last, -/
abbrev wHi (pf : pre0.Contents (Elt F)) (i : grid0.Coords) : BitVec 32 := pf.at 0 (Rect.unit (s := S5x143) (k0_off4 i) S1x1.size (k0_off4_inb i)) numel1_S1x1
/-- and whether it is the first item of its tile. -/
abbrev wFirst (pf : pre0.Contents (Elt F)) (i : grid0.Coords) : BitVec 32 := pf.at 0 (Rect.unit (s := S5x143) (k0_off5 i) S1x1.size (k0_off5_inb i)) numel1_S1x1
/-- The item covers a whole tile: the body's first branch. -/
abbrev isWhole (pf : pre0.Contents (Elt F)) (i : grid0.Coords) : Prop := k0_cond1 (wTile pf i) (wLo pf i) (wHi pf i) = 1#1
/-- The item covers part of a tile: the body's second branch. -/
abbrev isPart (pf : pre0.Contents (Elt F)) (i : grid0.Coords) : Prop := k0_cond2 (wTile pf i) (wLo pf i) (wHi pf i) = 1#1

/-! ## What the body leaves in the output tile -/

/-- Columns 0 to 511 of the output tile, the weights and the column scales. -/
abbrev rO0 : Rect S512x3072 := Rect.unit (s := S512x3072) ![0, 0] S512x512.size inb_S512x3072_S512x512_0_0
abbrev rW0 : Rect S1x4096x3072 := Rect.unit (s := S1x4096x3072) ![0, 0, 0] S1x4096x512.size inb_S1x4096x3072_S1x4096x512_0_0_0
abbrev rS0 : Rect S1x1x3072 := Rect.unit (s := S1x1x3072) ![0, 0, 0] S1x1x512.size inb_S1x1x3072_S1x1x512_0_0_0
/-- Columns 512 to 1023 of the output tile, the weights and the column scales. -/
abbrev rO1 : Rect S512x3072 := Rect.unit (s := S512x3072) ![0, 512] S512x512.size inb_S512x3072_S512x512_0_512
abbrev rW1 : Rect S1x4096x3072 := Rect.unit (s := S1x4096x3072) ![0, 0, 512] S1x4096x512.size inb_S1x4096x3072_S1x4096x512_0_0_512
abbrev rS1 : Rect S1x1x3072 := Rect.unit (s := S1x1x3072) ![0, 0, 512] S1x1x512.size inb_S1x1x3072_S1x1x512_0_0_512
/-- Columns 1024 to 1535 of the output tile, the weights and the column scales. -/
abbrev rO2 : Rect S512x3072 := Rect.unit (s := S512x3072) ![0, 1024] S512x512.size inb_S512x3072_S512x512_0_1024
abbrev rW2 : Rect S1x4096x3072 := Rect.unit (s := S1x4096x3072) ![0, 0, 1024] S1x4096x512.size inb_S1x4096x3072_S1x4096x512_0_0_1024
abbrev rS2 : Rect S1x1x3072 := Rect.unit (s := S1x1x3072) ![0, 0, 1024] S1x1x512.size inb_S1x1x3072_S1x1x512_0_0_1024
/-- Columns 1536 to 2047 of the output tile, the weights and the column scales. -/
abbrev rO3 : Rect S512x3072 := Rect.unit (s := S512x3072) ![0, 1536] S512x512.size inb_S512x3072_S512x512_0_1536
abbrev rW3 : Rect S1x4096x3072 := Rect.unit (s := S1x4096x3072) ![0, 0, 1536] S1x4096x512.size inb_S1x4096x3072_S1x4096x512_0_0_1536
abbrev rS3 : Rect S1x1x3072 := Rect.unit (s := S1x1x3072) ![0, 0, 1536] S1x1x512.size inb_S1x1x3072_S1x1x512_0_0_1536
/-- Columns 2048 to 2559 of the output tile, the weights and the column scales. -/
abbrev rO4 : Rect S512x3072 := Rect.unit (s := S512x3072) ![0, 2048] S512x512.size inb_S512x3072_S512x512_0_2048
abbrev rW4 : Rect S1x4096x3072 := Rect.unit (s := S1x4096x3072) ![0, 0, 2048] S1x4096x512.size inb_S1x4096x3072_S1x4096x512_0_0_2048
abbrev rS4 : Rect S1x1x3072 := Rect.unit (s := S1x1x3072) ![0, 0, 2048] S1x1x512.size inb_S1x1x3072_S1x1x512_0_0_2048
/-- Columns 2560 to 3071 of the output tile, the weights and the column scales. -/
abbrev rO5 : Rect S512x3072 := Rect.unit (s := S512x3072) ![0, 2560] S512x512.size inb_S512x3072_S512x512_0_2560
abbrev rW5 : Rect S1x4096x3072 := Rect.unit (s := S1x4096x3072) ![0, 0, 2560] S1x4096x512.size inb_S1x4096x3072_S1x4096x512_0_0_2560
abbrev rS5 : Rect S1x1x3072 := Rect.unit (s := S1x1x3072) ![0, 0, 2560] S1x1x512.size inb_S1x1x3072_S1x1x512_0_0_2560
/-- The whole tile of codes and of row scales. -/
abbrev rX : Rect S512x4096 := Rect.unit (s := S512x4096) ![0, 0] S512x4096.size inb_S512x4096_S512x4096_0_0
abbrev rR : Rect S512x1 := Rect.unit (s := S512x1) ![0, 0] S512x1.size inb_S512x1_S512x1_0_0

/-- The six column pieces put together. -/
def sixChunks (f0 f1 f2 f3 f4 f5 : Vec F S512x512 .bf16) : Vec F S512x3072 .bf16 :=
  View.canon [(⟨rO5, f5⟩ : View.Piece (Elt F) S512x3072 .bf16), ⟨rO4, f4⟩, ⟨rO3, f3⟩, ⟨rO2, f2⟩, ⟨rO1, f1⟩, ⟨rO0, f0⟩]

/-- The scaled products of a tile of rows with one expert's weights. -/
def wholeOut (x0 : Vec F S512x4096 .fp8e4m3) (x1 : Vec F S512x1 .f32) (x2 : Vec F S1x4096x3072 .fp8e4m3) (x3 : Vec F S1x1x3072 .f32) : Vec F S512x3072 .bf16 :=
  sixChunks (k0_pay5 (View.ld x0 rX) (View.ld x2 rW0) (View.ld x1 rR) (View.ld x3 rS0)) (k0_pay5 (View.ld x0 rX) (View.ld x2 rW1) (View.ld x1 rR) (View.ld x3 rS1)) (k0_pay5 (View.ld x0 rX) (View.ld x2 rW2) (View.ld x1 rR) (View.ld x3 rS2)) (k0_pay5 (View.ld x0 rX) (View.ld x2 rW3) (View.ld x1 rR) (View.ld x3 rS3)) (k0_pay5 (View.ld x0 rX) (View.ld x2 rW4) (View.ld x1 rR) (View.ld x3 rS4)) (k0_pay5 (View.ld x0 rX) (View.ld x2 rW5) (View.ld x1 rR) (View.ld x3 rS5))

/-- The same in the item's rows `v5` to `v9`, and zero (`first`) or the earlier contents in the other rows. -/
def partOut (v5 v9 : BitVec 32) (first : BitVec 1) (x0 : Vec F S512x4096 .fp8e4m3) (x1 : Vec F S512x1 .f32) (x2 : Vec F S1x4096x3072 .fp8e4m3) (x3 : Vec F S1x1x3072 .f32) (x4 : Vec F S512x3072 .bf16) : Vec F S512x3072 .bf16 :=
  sixChunks (k0_pay11 v5 v9 first (View.ld x0 rX) (View.ld x2 rW0) (View.ld x1 rR) (View.ld x3 rS0) (View.ld x4 rO0)) (k0_pay11 v5 v9 first (View.ld x0 rX) (View.ld x2 rW1) (View.ld x1 rR) (View.ld x3 rS1) (View.ld x4 rO1)) (k0_pay11 v5 v9 first (View.ld x0 rX) (View.ld x2 rW2) (View.ld x1 rR) (View.ld x3 rS2) (View.ld x4 rO2)) (k0_pay11 v5 v9 first (View.ld x0 rX) (View.ld x2 rW3) (View.ld x1 rR) (View.ld x3 rS3) (View.ld x4 rO3)) (k0_pay11 v5 v9 first (View.ld x0 rX) (View.ld x2 rW4) (View.ld x1 rR) (View.ld x3 rS4) (View.ld x4 rO4)) (k0_pay11 v5 v9 first (View.ld x0 rX) (View.ld x2 rW5) (View.ld x1 rR) (View.ld x3 rS5) (View.ld x4 rO5))

/-- `partOut` at item `i`. -/
abbrev partAt (pf : pre0.Contents (Elt F)) (i : grid0.Coords) (x0 : Vec F S512x4096 .fp8e4m3) (x1 : Vec F S512x1 .f32) (x2 : Vec F S1x4096x3072 .fp8e4m3) (x3 : Vec F S1x1x3072 .f32) (x4 : Vec F S512x3072 .bf16) : Vec F S512x3072 .bf16 :=
  partOut (Scalar.subi (wLo pf i) (Scalar.muli (wTile pf i) 512#32)) (Scalar.subi (wHi pf i) (Scalar.muli (wTile pf i) 512#32)) (Scalar.cmpi .eq (wFirst pf i) 1#32) x0 x1 x2 x3 x4

/-- Every place of the tile is in one of the six pieces. -/
theorem cover6 (f0 f1 f2 f3 f4 f5 : Vec F S512x512 .bf16) (y : S512x3072.Idx) :
    ∃ p ∈ [(⟨rO5, f5⟩ : View.Piece (Elt F) S512x3072 .bf16), ⟨rO4, f4⟩, ⟨rO3, f3⟩, ⟨rO2, f2⟩, ⟨rO1, f1⟩, ⟨rO0, f0⟩], y ∈ p.1.set :=
  View.cover_of_tiled [(⟨rO5, f5⟩ : View.Piece (Elt F) S512x3072 .bf16), ⟨rO4, f4⟩, ⟨rO3, f3⟩, ⟨rO2, f2⟩, ⟨rO1, f1⟩, ⟨rO0, f0⟩] S512x512.size rfl y

theorem pay1_eq (x : Vec F S512x4096 .fp8e4m3) (w : Vec F S1x4096x512 .fp8e4m3) (r : Vec F S512x1 .f32) (s : Vec F S1x1x512 .f32) :
    k0_pay1 x (k0_pay9 w) r s = k0_pay5 x w r s := rfl
theorem pay2_eq : (k0_pay2 (F := F)) = k0_pay5 := rfl
theorem pay6_eq : (k0_pay6 (F := F)) = k0_pay5 := rfl
theorem pay7_eq : (k0_pay7 (F := F)) = k0_pay5 := rfl
theorem pay8_eq : (k0_pay8 (F := F)) = k0_pay5 := rfl
section
variable (v5 v9 : BitVec 32) (first : BitVec 1) (x : Vec F S512x4096 .fp8e4m3) (w : Vec F S1x4096x512 .fp8e4m3) (r : Vec F S512x1 .f32) (s : Vec F S1x1x512 .f32) (old : Vec F S512x512 .bf16)
theorem pay13_eq : k0_pay13 first (k0_pay10 v5 v9) (k0_pay12 x w r) s old = k0_pay11 v5 v9 first x w r s old := rfl
theorem pay14_eq : k0_pay14 first (k0_pay10 v5 v9) x w r s old = k0_pay11 v5 v9 first x w r s old := rfl
theorem pay15_eq : k0_pay15 first (k0_pay10 v5 v9) x w r s old = k0_pay11 v5 v9 first x w r s old := rfl
theorem pay3_eq (v11 : BitVec 32) : k0_pay3 (F := F) v11 (k0_pay10 v5 v9) (k0_pay16 x w r) (k0_pay17 s) old = k0_pay11 v5 v9 (Scalar.cmpi .eq v11 1#32) x w r s old := rfl
theorem pay4_eq (v11 : BitVec 32) : k0_pay4 (F := F) v11 (k0_pay10 v5 v9) x w r s old = k0_pay11 v5 v9 (Scalar.cmpi .eq v11 1#32) x w r s old := rfl
end

set_option maxHeartbeats 4000000 in
/-- A work item that covers a whole tile. -/
theorem kernelRun_whole (c : Dev nD) (i : grid0.Coords) (arg2 : Memref sig .tc .vmem S512x4096 .fp8e4m3) (harg2 : arg2.IsWhole) (arg3 : Memref sig .tc .vmem S512x1 .f32) (harg3 : arg3.IsWhole) (arg4 : Memref sig .tc .vmem S1x4096x3072 .fp8e4m3) (harg4 : arg4.IsWhole) (arg5 : Memref sig .tc .vmem S1x1x3072 .f32) (harg5 : arg5.IsWhole) (arg6 : Memref sig .tc .vmem S512x3072 .bf16) (harg6 : arg6.IsWhole)
    (x0 : Vec F S512x4096 .fp8e4m3) (x1 : Vec F S512x1 .f32) (x2 : Vec F S1x4096x3072 .fp8e4m3) (x3 : Vec F S1x1x3072 .f32) (x4 : Vec F S512x3072 .bf16) (pf : pre0.Contents (Elt F))
    (hc0 : isWhole pf i) (hc1 : ¬ isPart pf i) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 (pf 0)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (wholeOut x0 x1 x2 x3) ∗ tbPt0 c tbM0_0 (pf 0)) -∗ K ⟨⟩))
          ⊢ wp frame (wpE (defs₀ (F := F)) Variants.none c none) E (cc0__gmm_kernel i tbM0_0 htbM0_0 arg2 harg2 arg3 harg3 arg4 harg4 arg5 harg5 arg6 harg6) K := by
    intro E K
    simp only [cc0__gmm_kernel_eq_skeleton]; unfold cc0__gmm_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, HT0, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (View.read_writes_eq_canon _ _ _ (cover6 _ _ _ _ _ _)).trans ?_
      simp only [View.readAt_eq_ld, Memref.IsWhole.read_unread, pay1_eq, pay2_eq, pay6_eq, pay7_eq, pay8_eq]
      delta kernelRun_whole.sl.r_4 kernelRun_whole.sl.r_5
      simp only [View.readAt_eq_ld, Memref.IsWhole.read_unread, pay1_eq]
      unfold wholeOut sixChunks
      rfl
    iexact HT0

set_option maxHeartbeats 4000000 in
/-- A work item that covers part of a tile. -/
theorem kernelRun_part (c : Dev nD) (i : grid0.Coords) (arg2 : Memref sig .tc .vmem S512x4096 .fp8e4m3) (harg2 : arg2.IsWhole) (arg3 : Memref sig .tc .vmem S512x1 .f32) (harg3 : arg3.IsWhole) (arg4 : Memref sig .tc .vmem S1x4096x3072 .fp8e4m3) (harg4 : arg4.IsWhole) (arg5 : Memref sig .tc .vmem S1x1x3072 .f32) (harg5 : arg5.IsWhole) (arg6 : Memref sig .tc .vmem S512x3072 .bf16) (harg6 : arg6.IsWhole)
    (x0 : Vec F S512x4096 .fp8e4m3) (x1 : Vec F S512x1 .f32) (x2 : Vec F S1x4096x3072 .fp8e4m3) (x3 : Vec F S1x1x3072 .f32) (x4 : Vec F S512x3072 .bf16) (pf : pre0.Contents (Elt F))
    (hc0 : ¬ isWhole pf i) (hc1 : isPart pf i) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 (pf 0)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (partAt pf i x0 x1 x2 x3 x4) ∗ tbPt0 c tbM0_0 (pf 0)) -∗ K ⟨⟩))
          ⊢ wp frame (wpE (defs₀ (F := F)) Variants.none c none) E (cc0__gmm_kernel i tbM0_0 htbM0_0 arg2 harg2 arg3 harg3 arg4 harg4 arg5 harg5 arg6 harg6) K := by
    intro E K
    simp only [cc0__gmm_kernel_eq_skeleton]; unfold cc0__gmm_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, HT0, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (View.read_writes_eq_canon _ _ _ (cover6 _ _ _ _ _ _)).trans ?_
      delta kernelRun_part.sl.r_4 kernelRun_part.sl.r_5 kernelRun_part.sl.r_6 kernelRun_part.sl.r_7 kernelRun_part.sl.v148 kernelRun_part.sl.v127 kernelRun_part.sl.v106 kernelRun_part.sl.v85 kernelRun_part.sl.v64
      have e0 : kernelRun_part.sl.r i pf = wTile pf i := rfl
      have e1 : kernelRun_part.sl.r_1 i pf = wLo pf i := rfl
      have e2 : kernelRun_part.sl.r_2 i pf = wHi pf i := rfl
      have e3 : kernelRun_part.sl.r_3 i pf = wFirst pf i := rfl
      simp only [e0, e1, e2, e3, View.readAt_eq_ld, Memref.IsWhole.read_unread, pay13_eq, pay14_eq, pay15_eq, pay3_eq, pay4_eq]
      unfold partAt partOut sixChunks
      generalize Scalar.subi (wLo pf i) (Scalar.muli (wTile pf i) 512#32) = v5
      generalize Scalar.subi (wHi pf i) (Scalar.muli (wTile pf i) 512#32) = v9
      generalize Scalar.cmpi .eq (wFirst pf i) 1#32 = fv
      rfl
    iexact HT0

set_option maxHeartbeats 4000000 in
/-- A work item without rows. -/
theorem kernelRun_none (c : Dev nD) (i : grid0.Coords) (arg2 : Memref sig .tc .vmem S512x4096 .fp8e4m3) (harg2 : arg2.IsWhole) (arg3 : Memref sig .tc .vmem S512x1 .f32) (harg3 : arg3.IsWhole) (arg4 : Memref sig .tc .vmem S1x4096x3072 .fp8e4m3) (harg4 : arg4.IsWhole) (arg5 : Memref sig .tc .vmem S1x1x3072 .f32) (harg5 : arg5.IsWhole) (arg6 : Memref sig .tc .vmem S512x3072 .bf16) (harg6 : arg6.IsWhole)
    (x0 : Vec F S512x4096 .fp8e4m3) (x1 : Vec F S512x1 .f32) (x2 : Vec F S1x4096x3072 .fp8e4m3) (x3 : Vec F S1x1x3072 .f32) (x4 : Vec F S512x3072 .bf16) (pf : pre0.Contents (Elt F))
    (hc0 : ¬ isWhole pf i) (hc1 : ¬ isPart pf i) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 (pf 0)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 (pf 0)) -∗ K ⟨⟩))
          ⊢ wp frame (wpE (defs₀ (F := F)) Variants.none c none) E (cc0__gmm_kernel i tbM0_0 htbM0_0 arg2 harg2 arg3 harg3 arg4 harg4 arg5 harg5 arg6 harg6) K := by
    intro E K
    simp only [cc0__gmm_kernel_eq_skeleton]; unfold cc0__gmm_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, HT0, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact harg6.read_unread _
    iexact HT0

end Cert.Kernel.Gen

end
-- ==== Proof.KernelFrame.lean ====
/- The program's run: what the body leaves item by item, the pipelined region, and the final memory. -/
module

public import proofs.«01_k».proof.Proof.KernelBody
public import Idealize.ShloMosaic.Lib.Pipeline.TableIdle
public import Idealize.ShloMosaic.Lib.Pipeline.ValueKit

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branches -/

/-- An item that covers a whole tile does not take the second branch. -/
theorem isWhole_not_isPart (pf : pre0.Contents (Elt F)) (i : grid0.Coords) (h : isWhole pf i) : ¬ isPart pf i := by
  unfold isWhole at h; unfold isPart
  generalize wTile pf i = a at *; generalize wLo pf i = b at *; generalize wHi pf i = d at *
  unfold k0_cond1 at h; unfold k0_cond2
  simp only [] at h ⊢
  generalize Scalar.subi (Scalar.subi d (Scalar.muli a 512#32)) (Scalar.subi b (Scalar.muli a 512#32)) = w at *
  have hw : w = 512#32 := by
    by_contra hne
    have : Scalar.cmpi .eq w 512#32 = 0#1 := by
      show BitVec.ofBool (w == 512#32) = 0#1
      rw [beq_eq_false_iff_ne.mpr hne]; rfl
    rw [this] at h
    exact absurd h (by decide)
  subst hw
  have : ∀ x : BitVec 1, ¬ Scalar.cmpi .ne (Scalar.extui (Scalar.andi x (Scalar.cmpi .slt 512#32 512#32)) : BitVec 32) 0#32 = 1#1 := by decide
  exact this _

/-- A word of the table read at an offset by the idle table is the word the body loads there. -/
theorem atD_eq (pf : pre0.Contents (Elt F)) (o : Fin 2 → ℕ) (h : ∀ a, o a + S1x1.size a ≤ S5x143.size a) :
    pf.atD 0 o = pf.at 0 (Rect.unit (s := S5x143) o S1x1.size h) numel1_S1x1 := by
  have hh : ∀ a : Fin 2, o a + 1 ≤ S5x143.size a := fun a => by
    have := h a; revert this; fin_cases a <;> exact fun h => h
  have e : pf.atD 0 o = pf 0 (fun a => ⟨o a, hh a⟩) := dif_pos hh
  rw [e]
  refine congrArg (pf 0) (funext fun a => Fin.ext ?_)
  fin_cases a <;> rfl

/-- The output window is idle exactly at the items without rows. -/
theorem idle0_4 (pf : pre0.Contents (Elt F)) (i : grid0.Coords) : idle0 pf 4 i = true ↔ ¬ isWhole pf i ∧ ¬ isPart pf i := by
  show (!(k0_cond1 (pf.atD 0 (k0_off1 i)) (pf.atD 0 (k0_off3 i)) (pf.atD 0 (k0_off4 i)) == 1#1) && !(k0_cond2 (pf.atD 0 (k0_off1 i)) (pf.atD 0 (k0_off3 i)) (pf.atD 0 (k0_off4 i)) == 1#1)) = true ↔ _
  rw [atD_eq pf _ (k0_off1_inb i), atD_eq pf _ (k0_off3_inb i), atD_eq pf _ (k0_off4_inb i)]
  unfold isWhole isPart
  simp only [Bool.and_eq_true, Bool.not_eq_true', beq_eq_false_iff_ne, ne_eq]

/-- At the first item of a tile the earlier contents do not matter. -/
theorem partAt_first (pf : pre0.Contents (Elt F)) (i : grid0.Coords) (h : wFirst pf i = 1#32) (x0 : Vec F S512x4096 .fp8e4m3) (x1 : Vec F S512x1 .f32) (x2 : Vec F S1x4096x3072 .fp8e4m3) (x3 : Vec F S1x1x3072 .f32) (x4 x4' : Vec F S512x3072 .bf16) :
    partAt pf i x0 x1 x2 x3 x4 = partAt pf i x0 x1 x2 x3 x4' := by
  unfold partAt partOut
  rw [h, show Scalar.cmpi .eq 1#32 1#32 = 1#1 from by decide]
  have e : ∀ (v5 v9 : BitVec 32) (x : Vec F S512x4096 .fp8e4m3) (w : Vec F S1x4096x512 .fp8e4m3) (r : Vec F S512x1 .f32) (s : Vec F S1x1x512 .f32) (o o' : Vec F S512x512 .bf16),
      k0_pay11 v5 v9 1#1 x w r s o = k0_pay11 v5 v9 1#1 x w r s o' := fun _ _ _ _ _ _ _ _ => rfl
  congr 1 <;> exact e _ _ _ _ _ _ _ _

/-! ## The output tile, item by item -/

/-- One item's effect on the output tile. -/
def outStep (pf : pre0.Contents (Elt F)) (i : grid0.Coords) (x0 : Vec F S512x4096 .fp8e4m3) (x1 : Vec F S512x1 .f32) (x2 : Vec F S1x4096x3072 .fp8e4m3) (x3 : Vec F S1x1x3072 .f32) (prev : Vec F S512x3072 .bf16) : Vec F S512x3072 .bf16 :=
  open Classical in if isWhole pf i then wholeOut x0 x1 x2 x3 else if isPart pf i then partAt pf i x0 x1 x2 x3 prev else prev

/-- The output tile after the body at item `n`. -/
def outAt (hO : Ok m) (c : Dev nD) : (n : ℕ) → n < (cfgM m hO).N → Vec F S512x3072 .bf16
  | 0, h => outStep (tbl m) (grid0.coords ⟨0, h⟩) (iblk m hO c 0 ⟨0, h⟩) (iblk m hO c 1 ⟨0, h⟩) (iblk m hO c 2 ⟨0, h⟩) (iblk m hO c 3 ⟨0, h⟩) (fun _ => Scalar.ofBits .bf16 0#16)
  | n + 1, h => outStep (tbl m) (grid0.coords ⟨n + 1, h⟩) (iblk m hO c 0 ⟨n + 1, h⟩) (iblk m hO c 1 ⟨n + 1, h⟩) (iblk m hO c 2 ⟨n + 1, h⟩) (iblk m hO c 3 ⟨n + 1, h⟩) (outAt hO c n (by omega))

/-- The output tile before the body at item `t`, where it is not fresh. -/
def prevAt (hO : Ok m) (c : Dev nD) (t : Fin (cfgM m hO).N) : Vec F S512x3072 .bf16 :=
  if t.val = 0 then (fun _ => Scalar.ofBits .bf16 0#16) else outAt m hO c (t.val - 1) (by omega)

theorem outAt_eq (hO : Ok m) (c : Dev nD) (t : Fin (cfgM m hO).N) :
    outAt m hO c t.val t.isLt = outStep (tbl m) (grid0.coords t) (iblk m hO c 0 t) (iblk m hO c 1 t) (iblk m hO c 2 t) (iblk m hO c 3 t) (prevAt m hO c t) := by
  obtain ⟨n, hn⟩ := t
  cases n with
  | zero => unfold prevAt outAt; rw [if_pos rfl]
  | succ n => unfold prevAt; rw [if_neg (Nat.succ_ne_zero n)]; rw [outAt]; rfl

/-- Where the output tile holds nothing yet, the item is a whole one or the first of its tile. -/
abbrev Good (hO : Ok m) : Prop := ∀ t : Fin (cfgM m hO).N, (cfgM m hO).fresh 4 t.val = true →
  isWhole (tbl m) (grid0.coords t) ∨ isPart (tbl m) (grid0.coords t) ∧ wFirst (tbl m) (grid0.coords t) = 1#32

/-- The proof data of the one pipeline on core `c`: the arrays as the region finds them (`V`); after the body at
    point `t` each input's buffer at its block and the output's at `outAt`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t.val t.isLt
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outAt m hO c t.val t.isLt := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

theorem idle_at (a : (pcfg0 (F := F)).Adm) (i : grid0.Coords) : (cfg0 a).idle 4 i = idle0 a.1 4 i := by
  have : ∀ w, (cfg0 a).idle w i = idle0 a.1 w i := fun w => by with_reducible exact Eq.refl _
  exact this 4

theorem idle_iff (pf : pre0.Contents (Elt F)) (hO) (t : Fin grid0.N) : (cfg0 (⟨pf, hO⟩ : (pcfg0 (F := F)).Adm)).idle 4 (grid0.coords t) = true ↔ ¬ isWhole pf (grid0.coords t) ∧ ¬ isPart pf (grid0.coords t) := by
  rw [idle_at]; exact (idle0_4 pf (grid0.coords t))

/-- The output window's idleness, at the pinned configuration. -/
theorem idleM (hO : Ok m) (t : Fin (cfgM m hO).N) : (cfgM m hO).idle 4 (grid0.coords t) = true ↔ ¬ isWhole (tbl m) (grid0.coords t) ∧ ¬ isPart (tbl m) (grid0.coords t) := by
  exact idle_iff (tbl m) hO t

/-- What the body finds in the output tile where it is not fresh: what the item before left. -/
theorem before0_4 (hO : Ok m) (c : Dev nD) (t : Fin (cfgM m hO).N) (d) (hfr : ¬ (cfgM m hO).fresh 4 t.val = true) :
    (dats m hO 0 c).before 4 t d = prevAt m hO c t := by
  refine (Pipeline.Dat.before_out_traj (dats m hO 0 c) 4 rfl (fun _ _ => rfl) (fun t ht hi hf => ?_) t.val t rfl d).trans ((if_neg hfr).trans ?_)
  · rw [after0_4, after0_4, outAt_eq]
    have hh := (idleM m hO t).mp hi
    unfold outStep prevAt
    rw [if_neg hh.1, if_neg hh.2, if_neg ht]
  · rw [after0_4]
    have h0 : t.val ≠ 0 := fun h => hfr (by rw [h]; rfl)
    unfold prevAt; rw [if_neg h0]

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- The body at any point: the inputs' memrefs hold their blocks (`before0_W`); so the
    run applies; the invariant passes through unread; the core owes nothing throughout. -/
theorem sound_body (hO : Ok m) (hG : Good m hO) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq]
  rw [show (dats m hO 0 c).leavesExact 0 t = owns (c : Thread nD τ) (ms0_0 m hO t) fullShare ((dats m hO 0 c).after 0 t) from by
      unfold Dat.leavesExact; rw [liveAt0_0 m hO t]; try rfl, after0_0]
  rw [show (dats m hO 0 c).leavesExact 1 t = owns (c : Thread nD τ) (ms0_1 m hO t) fullShare ((dats m hO 0 c).after 1 t) from by
      unfold Dat.leavesExact; rw [liveAt0_1 m hO t]; try rfl, after0_1]
  rw [show (dats m hO 0 c).leavesExact 2 t = owns (c : Thread nD τ) (ms0_2 m hO t) fullShare ((dats m hO 0 c).after 2 t) from by
      unfold Dat.leavesExact; rw [liveAt0_2 m hO t]; try rfl, after0_2]
  rw [show (dats m hO 0 c).leavesExact 3 t = owns (c : Thread nD τ) (ms0_3 m hO t) fullShare ((dats m hO 0 c).after 3 t) from by
      unfold Dat.leavesExact; rw [liveAt0_3 m hO t]; try rfl, after0_3]
  by_cases hW : isWhole (tbl m) (grid0.coords t)
  · have hP := isWhole_not_isPart (tbl m) (grid0.coords t) hW
    have hi : (cfgM m hO).idle 4 (grid0.coords t) = false := by
      rw [← Bool.not_eq_true, idleM]; exact fun h => h.1 hW
    rw [show (dats m hO 0 c).leavesExact 4 t = owns (c : Thread nD τ) (ms0_4 m hO t) fullShare ((dats m hO 0 c).after 4 t) from by
      unfold Dat.leavesExact; rw [hi]; try rfl, after0_4, outAt_eq]
    unfold outStep; rw [if_pos hW]
    iintro ⟨⟨HΦ, HT0⟩, Ho, ⟨%d0, H0⟩, ⟨%d1, H1⟩, ⟨%d2, H2⟩, ⟨%d3, H3⟩, ⟨%d4, H4⟩⟩
    iapply ((kernelRun_whole c (grid0.coords t) _ _ _ _ _ _ _ _ _ _ (iblk m hO c 0 t) (iblk m hO c 1 t) (iblk m hO c 2 t) (iblk m hO c 3 t) _ (tbl m) hW hP) Set.univ _)
    isplitl [H0]; · iexact H0
    isplitl [H1]; · iexact H1
    isplitl [H2]; · iexact H2
    isplitl [H3]; · iexact H3
    isplitl [H4]; · iexact H4
    isplitl [HT0]; · iexact HT0
    iintro ⟨H0, H1, H2, H3, H4, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    iexact H4
  by_cases hP : isPart (tbl m) (grid0.coords t)
  · have hi : (cfgM m hO).idle 4 (grid0.coords t) = false := by
      rw [← Bool.not_eq_true, idleM]; exact fun h => h.2 hP
    rw [show (dats m hO 0 c).leavesExact 4 t = owns (c : Thread nD τ) (ms0_4 m hO t) fullShare ((dats m hO 0 c).after 4 t) from by
      unfold Dat.leavesExact; rw [hi]; try rfl, after0_4, outAt_eq]
    unfold outStep; rw [if_neg hW, if_pos hP]
    have hb : ∀ d, partAt (tbl m) (grid0.coords t) (iblk m hO c 0 t) (iblk m hO c 1 t) (iblk m hO c 2 t) (iblk m hO c 3 t) ((dats m hO 0 c).before 4 t d)
        = partAt (tbl m) (grid0.coords t) (iblk m hO c 0 t) (iblk m hO c 1 t) (iblk m hO c 2 t) (iblk m hO c 3 t) (prevAt m hO c t) := fun d => by
      by_cases hfr : (cfgM m hO).fresh 4 t.val = true
      · rcases hG t hfr with h | h
        · exact absurd h hW
        · exact partAt_first _ _ h.2 _ _ _ _ _ _
      · rw [before0_4 m hO c t d hfr]
    iintro ⟨⟨HΦ, HT0⟩, Ho, ⟨%d0, H0⟩, ⟨%d1, H1⟩, ⟨%d2, H2⟩, ⟨%d3, H3⟩, ⟨%d4, H4⟩⟩
    iapply ((kernelRun_part c (grid0.coords t) _ _ _ _ _ _ _ _ _ _ (iblk m hO c 0 t) (iblk m hO c 1 t) (iblk m hO c 2 t) (iblk m hO c 3 t) _ (tbl m) hW hP) Set.univ _)
    isplitl [H0]; · iexact H0
    isplitl [H1]; · iexact H1
    isplitl [H2]; · iexact H2
    isplitl [H3]; · iexact H3
    isplitl [H4]; · iexact H4
    isplitl [HT0]; · iexact HT0
    iintro ⟨H0, H1, H2, H3, H4, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    rw [hb]; iexact H4
  · have hfr : ¬ (cfgM m hO).fresh 4 t.val = true := fun h => (hG t h).elim hW fun h => hP h.1
    have hi : (cfgM m hO).idle 4 (grid0.coords t) = true := (idleM m hO t).mpr ⟨hW, hP⟩
    have hb : ∀ d, (dats m hO 0 c).before 4 t d = prevAt m hO c t := fun d => before0_4 m hO c t d hfr
    have ha : (dats m hO 0 c).after 4 t = prevAt m hO c t := by
      rw [after0_4, outAt_eq]; unfold outStep; rw [if_neg hW, if_neg hP]
    have hl : owns (c : Thread nD τ) (ms0_4 m hO t) fullShare (prevAt m hO c t) ⊢ (dats m hO 0 c).leavesExact 4 t := by
      unfold Dat.leavesExact
      rw [show (cfgM m hO).idle 4 ((cfgM m hO).grid.coords t) = true from hi]
      cases ((cfgM m hO).win 4).flush t with
      | false => simp only [hb]; iintro H; iexists (fun _ => Scalar.ofBits .bf16 0#16); iexact H
      | true => simp only [ha]; exact .rfl
    simp only [hb]
    iintro ⟨⟨HΦ, HT0⟩, Ho, ⟨%d0, H0⟩, ⟨%d1, H1⟩, ⟨%d2, H2⟩, ⟨%d3, H3⟩, ⟨%d4, H4⟩⟩
    iapply ((kernelRun_none c (grid0.coords t) _ _ _ _ _ _ _ _ _ _ (iblk m hO c 0 t) (iblk m hO c 1 t) (iblk m hO c 2 t) (iblk m hO c 3 t) _ (tbl m) hW hP) Set.univ _)
    isplitl [H0]; · iexact H0
    isplitl [H1]; · iexact H1
    isplitl [H2]; · iexact H2
    isplitl [H3]; · iexact H3
    isplitl [H4]; · iexact H4
    isplitl [HT0]; · iexact HT0
    iintro ⟨H0, H1, H2, H3, H4, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    iapply hl; iexact H4
/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hG : Good m hO) (c : Dev nD) : BodyObligation (dats (F := F) m hO 0 c) (defs₀ (F := F)) Variants.none () Set.univ := fun t => by
  rw [bigSep_W0, bigSep_W0, defs₀_row m hO]
  exact triple_restated (sound_body m hO hG c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hG : Good m hO) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hG c).loose) (hshare := fun c => (dats m hO 0 c).share_full fun _ => rfl)
    (howed := fun _ _ => rfl) (V := V m) (hmain := hmain m Variants.none) (hA := A_eq m hO) (hpf := V_pre m) (hΦ := fun _ _ => rfl)

/-- The final memory: the argument arrays as they were, the result as the pipeline's write-backs leave it, every counter at zero. -/
theorem final (hO : Ok m) (hG : Good m hO) : θ_run defs (onTc (τ := τ) (main (F := F))) ⟨m, fun _ => 0, ρ⟩ (fun r => (∀ c : Dev nD,
      r.2.mem ((c.tc : Thread nD τ).loc main_v84) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).1 4,
      ((h.1 c).1 0).trans (((dats m hO 0 c).arrAt_in 0 rfl _).trans ((A_eq m hO c 0).trans (V_main_arg0 m c))),
      ((h.1 c).2 main_arg1 (by decide : main_arg1 ∈ Pipeline.restRefs sig spec0)).trans (V_main_arg1 m c),
      ((h.1 c).1 2).trans (((dats m hO 0 c).arrAt_in 2 rfl _).trans ((A_eq m hO c 2).trans (V_main_arg2 m c))),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c)⟩, h.2⟩) (run_main_quiescent m ρ hO hG)

/-- The argument arrays end unchanged and every counter at zero. -/
theorem frame (hO : Ok m) (hG : Good m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2, h.2⟩) (final m ρ hO hG)

end Cert.Kernel.Gen

end
-- ==== Proof.KernelOk.lean ====
/- The precondition gives what the frame asks: the blocks lie inside their arrays, and every item that begins a tile writes all of it. -/
module

public import proofs.«01_k».proof.Proof.KernelTable
public import proofs.«01_k».proof.Proof.KernelFrame
public import proofs.«01_k».proof.Proof.Sizes
public import Idealize.ShloMosaic.Lib.PairWhole

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Routing (ofNat32_sub slt_ofNat32)
open Items (E I tile lo hi grp Live First)

/-! ## The table's words at an item -/

theorem at_row (pf : pre0.Contents (Elt F)) (i : grid0.Coords) (r : Fin 5) (o : Fin 2 → ℕ) (ho : o = ![r.val, (i 0).val]) (h : ∀ a, o a + S1x1.size a ≤ S5x143.size a) :
    pf.at 0 (Rect.unit (s := S5x143) o S1x1.size h) numel1_S1x1 = (pf 0 : IVec S5x143 32) (ValueIdx.ix2 r (i 0 : Fin 143)) := by
  subst ho
  have hh : ∀ a : Fin 2, (![r.val, (i 0).val] : Fin 2 → ℕ) a + 1 ≤ S5x143.size a := fun a => by
    have := h a; revert this; fin_cases a <;> exact fun h => h
  have e : pf.atD 0 ![r.val, (i 0).val] = pf 0 (fun a => ⟨(![r.val, (i 0).val] : Fin 2 → ℕ) a, hh a⟩) := dif_pos hh
  rw [← atD_eq, e]
  refine congrArg (pf 0) (funext fun a => Fin.ext ?_)
  fin_cases a <;> rfl

theorem coord_word (i : grid0.Coords) : (Scalar.indexCast (BitVec.ofNat 32 (i 0).val) : Index).toNat = (i 0).val := by
  have h : (i 0).val < 143 := (i 0).isLt
  show (BitVec.ofNat 32 (i 0).val).toNat = _
  rw [BitVec.toNat_ofNat]; exact Nat.mod_eq_of_lt (by omega)

theorem coord_val (t : Fin grid0.N) : ((grid0.coords t) 0).val = t.val := by
  have h : ((grid0.coords t) 0).val = t.val / 1 % 143 := Pipeline.Grid.coords_val t 0 (by decide) rfl
  have h1 := t.isLt
  have hN : grid0.N = 143 := N_0
  rw [h, Nat.div_one]
  exact Nat.mod_eq_of_lt (by omega)

theorem words_of_rows {s : Shape} (r : Rect s) (h2 : 2 ≤ s.rank) {p q a b : ℕ} (hp : p = q) (ho : r.off (s.rowAx h2) = a) (hs : r.size (s.rowAx h2) = b)
    (ha : q ∣ a) (hb : q ∣ b) (hst : r.stride (s.rowAx h2) = 1) : r.WholeWords p :=
  .inl (.inr ⟨h2, hst, .inl ⟨by rw [hp, ho]; exact ha, by rw [hp, hs]; exact hb⟩⟩)

section
variable {s : ℕ → ℕ} {L : ℕ} {pf : pre0.Contents (Elt F)} (hr : Rows s (pf 0 : IVec S5x143 32) L)
include hr

theorem wTile_eq (i : grid0.Coords) : wTile pf i = BitVec.ofNat 32 (tile s (i 0).val) :=
  (at_row pf i 0 _ (by unfold k0_off1; simp only [coord_word]; rfl) _).trans (hr (i 0)).1
theorem wGrp_eq (i : grid0.Coords) : pf.at 0 (Rect.unit (s := S5x143) (k0_off2 i) S1x1.size (k0_off2_inb i)) numel1_S1x1 = BitVec.ofNat 32 (if Live s (i 0).val then grp s (i 0).val else L) :=
  (at_row pf i 1 _ (by unfold k0_off2; simp only [coord_word]; rfl) _).trans (hr (i 0)).2.1
theorem wLo_eq (i : grid0.Coords) : wLo pf i = BitVec.ofNat 32 (lo s (i 0).val) :=
  (at_row pf i 2 _ (by unfold k0_off3; simp only [coord_word]; rfl) _).trans (hr (i 0)).2.2.1
theorem wHi_eq (i : grid0.Coords) : wHi pf i = BitVec.ofNat 32 (hi s (i 0).val) :=
  (at_row pf i 3 _ (by unfold k0_off4; simp only [coord_word]; rfl) _).trans (hr (i 0)).2.2.2.1
theorem wFirst_eq (i : grid0.Coords) : wFirst pf i = BitVec.ofNat 32 (if First s (i 0).val then 1 else 0) :=
  (at_row pf i 4 _ (by unfold k0_off5; simp only [coord_word]; rfl) _).trans (hr (i 0)).2.2.2.2

theorem tile_word (hE : E s 16 = 65536) (i : grid0.Coords) : (wTile pf i).toNat = tile s (i 0).val := by
  rw [wTile_eq hr, BitVec.toNat_ofNat]
  exact Nat.mod_eq_of_lt (by have := Items.tile_lt hE (i 0).val; omega)

theorem ix_tile (i : grid0.Coords) : cc0_transform_4 k0_off1_inb numel1_S1x1 pf i = ![(wTile pf i).toNat, 0] := rfl

/-! ## The blocks lie inside their arrays -/

theorem ok_of_rows (hE : E s 16 = 65536) (hL : L < 16) : ok0 pf := by
  have ht : ∀ i : grid0.Coords, (wTile pf i).toNat < 128 := fun i => by rw [tile_word hr hE]; exact Items.tile_lt hE _
  have hg : ∀ i : grid0.Coords, (pf.at 0 (Rect.unit (s := S5x143) (k0_off2 i) S1x1.size (k0_off2_inb i)) numel1_S1x1).toNat < 16 := fun i => by
    rw [wGrp_eq hr, BitVec.toNat_ofNat]
    split
    · next h => have : grp s (i 0).val < 16 := h; omega
    · omega
  refine ⟨fun i => ⟨fun a => ?_, .inr ?_⟩, fun i => ⟨fun a => ?_, .inl rfl⟩, fun i => ⟨fun a => ?_, .inr ?_⟩, fun i => ⟨fun a => ?_, .inl rfl⟩, fun i => ⟨fun a => ?_, .inr ?_⟩⟩
  · have := ht i
    fin_cases a
    · show ((wTile pf i).toNat + 1) * 512 ≤ 65536; omega
    · show (0 + 1) * 4096 ≤ 4096; omega
  · exact words_of_rows (s := S65536x4096) _ (by decide) (q := 4) (a := (wTile pf i).toNat * 512) (b := 512) rfl rfl rfl (by omega) (by decide) rfl
  · have := ht i
    fin_cases a
    · show ((wTile pf i).toNat + 1) * 512 ≤ 65536; omega
    · show (0 + 1) * 1 ≤ 1; omega
  · have := hg i
    fin_cases a
    · show ((pf.at 0 (Rect.unit (s := S5x143) (k0_off2 i) S1x1.size (k0_off2_inb i)) numel1_S1x1).toNat + 1) * 1 ≤ 16; omega
    · show (0 + 1) * 4096 ≤ 4096; omega
    · show (0 + 1) * 3072 ≤ 3072; omega
  · have e : ∀ g : ℕ, ∀ h : ∀ a, ((![g, 0, 0] : Fin 3 → ℕ) a + 1) * S1x4096x3072.size a ≤ S16x4096x3072.size a, (Rect.block (s := S16x4096x3072) S1x4096x3072.size ![g, 0, 0] h).WholeWords (EltTy.packing .fp8e4m3) := fun g h =>
      .inl (.inr ⟨by decide, rfl, .inl ⟨⟨0, rfl⟩, ⟨1024, rfl⟩⟩⟩)
    exact e _ _
  · have := hg i
    fin_cases a
    · show ((pf.at 0 (Rect.unit (s := S5x143) (k0_off2 i) S1x1.size (k0_off2_inb i)) numel1_S1x1).toNat + 1) * 1 ≤ 16; omega
    · show (0 + 1) * 1 ≤ 1; omega
    · show (0 + 1) * 3072 ≤ 3072; omega
  · have := ht i
    fin_cases a
    · show ((wTile pf i).toNat + 1) * 512 ≤ 65536; omega
    · show (0 + 1) * 3072 ≤ 3072; omega
  · exact words_of_rows (s := S65536x3072) _ (by decide) (q := 2) (a := (wTile pf i).toNat * 512) (b := 512) rfl rfl rfl (by omega) (by decide) rfl

/-! ## The branches the items take -/

omit hr in
theorem cond_words {t l h : ℕ} (ht : t < 128) (h1 : t * 512 ≤ l) (h2 : l < h) (h3 : h ≤ (t + 1) * 512) :
    (k0_cond1 (BitVec.ofNat 32 t) (BitVec.ofNat 32 l) (BitVec.ofNat 32 h) = 1#1 ↔ h - l = 512)
    ∧ (k0_cond2 (BitVec.ofNat 32 t) (BitVec.ofNat 32 l) (BitVec.ofNat 32 h) = 1#1 ↔ h - l < 512) := by
  have e0 : Scalar.muli (BitVec.ofNat 32 t) 512#32 = BitVec.ofNat 32 (t * 512) := Items.mul_ofNat t 512
  have e1 : Scalar.subi (BitVec.ofNat 32 h) (BitVec.ofNat 32 (t * 512)) = BitVec.ofNat 32 (h - t * 512) := ofNat32_sub (by omega)
  have e2 : Scalar.subi (BitVec.ofNat 32 l) (BitVec.ofNat 32 (t * 512)) = BitVec.ofNat 32 (l - t * 512) := ofNat32_sub (by omega)
  have e3 : Scalar.subi (BitVec.ofNat 32 (h - t * 512)) (BitVec.ofNat 32 (l - t * 512)) = BitVec.ofNat 32 (h - l) :=
    (ofNat32_sub (by omega)).trans (by congr 1; omega)
  have e4 : Scalar.cmpi .eq (BitVec.ofNat 32 (h - l)) 512#32 = BitVec.ofBool (decide (h - l = 512)) := by
    show BitVec.ofBool (BitVec.ofNat 32 (h - l) == BitVec.ofNat 32 512) = _
    by_cases hc : h - l = 512
    · rw [hc]; decide
    · have : ¬ BitVec.ofNat 32 (h - l) = BitVec.ofNat 32 512 := fun hh => hc ((Items.ofNat_inj (by omega) (by decide)).mp hh)
      rw [beq_eq_false_iff_ne.mpr this, decide_eq_false hc]
  have e5 : Scalar.cmpi .sgt (BitVec.ofNat 32 (h - t * 512)) (BitVec.ofNat 32 (l - t * 512)) = BitVec.ofBool (decide (l - t * 512 < h - t * 512)) := Items.cmpi_sgt (by omega) (by omega)
  have e6 : Scalar.cmpi .slt (BitVec.ofNat 32 (h - l)) 512#32 = BitVec.ofBool (decide (h - l < 512)) := Items.cmpi_slt (by omega) (by decide)
  constructor
  · unfold k0_cond1
    simp only [e0, e1, e2, e3, e4]
    by_cases hc : h - l = 512
    · simp only [hc, decide_true]; decide
    · simp only [hc, decide_false]; decide
  · unfold k0_cond2
    simp only [e0, e1, e2, e3, e5, e6, decide_eq_true (show l - t * 512 < h - t * 512 by omega)]
    by_cases hc : h - l < 512
    · simp only [hc, decide_true]; decide
    · simp only [hc, decide_false]; decide

theorem live_branches (hE : E s 16 = 65536) (i : grid0.Coords) (hl : Live s (i 0).val) :
    (isWhole pf i ↔ hi s (i 0).val - lo s (i 0).val = 512) ∧ (isPart pf i ↔ hi s (i 0).val - lo s (i 0).val < 512) := by
  unfold isWhole isPart
  rw [wTile_eq hr, wLo_eq hr, wHi_eq hr]
  obtain ⟨-, -, h1, h2, h3⟩ := Items.lo_hi s hl
  exact cond_words (Items.tile_lt hE _) h2 h1 h3

theorem dead_branches (i : grid0.Coords) (hl : ¬ Live s (i 0).val) : ¬ isWhole pf i ∧ ¬ isPart pf i := by
  unfold isWhole isPart
  rw [wTile_eq hr, wLo_eq hr, wHi_eq hr]
  obtain ⟨h1, h2, h3⟩ := Items.dead_lo_hi s hl
  rw [h1, h2, h3]
  exact ⟨by decide, by decide⟩

/-! ## When the output tile is written back, and what it holds before -/

theorem flush_iff (hE : E s 16 = 65536) (hO : ok0 pf) (t : Fin (cfg0 (F := F) ⟨pf, hO⟩).N) :
    ((cfg0 (F := F) ⟨pf, hO⟩).win 4).flush t = true ↔ t.val = 142 ∨ tile s (t.val + 1) ≠ tile s t.val := by
  have hN : grid0.N = 143 := N_0
  have hix : ∀ u : Fin grid0.N, cc0_transform_4 k0_off1_inb numel1_S1x1 pf (grid0.coords u) = ![tile s u.val, 0] := fun u => by
    rw [ix_tile hr, tile_word hr hE, coord_val]
  have e : ((cfg0 (F := F) ⟨pf, hO⟩).win 4).flush t = Pipeline.Window.flushOf grid0 true (cc0_transform_4 k0_off1_inb numel1_S1x1 pf) t := rfl
  rw [e]
  unfold Pipeline.Window.flushOf
  simp only [Bool.true_and, Bool.or_eq_true, decide_eq_true_eq, hix]
  have ht : t.val < 143 := hN ▸ t.isLt
  constructor
  · rintro (h | ⟨h, hne⟩)
    · left; omega
    · right; intro hh; apply hne; rw [hh]
  · rintro (h | h)
    · left; omega
    · by_cases h142 : t.val + 1 = grid0.N
      · exact Or.inl h142
      · exact Or.inr ⟨by omega, fun hh => h (congrFun hh 0)⟩
end

section
variable {s : ℕ → ℕ} {L : ℕ} (hr : Rows s (tbl m 0 : IVec S5x143 32) L) (hE : E s 16 = 65536)
include hr hE

theorem fresh_first (hO : Ok m) : ∀ n (h : n < (cfgM m hO).N), (cfgM m hO).fresh 4 n = true → Live s n ∧ First s n
  | 0, _, _ => ⟨Items.live_zero hE, Or.inl rfl⟩
  | n + 1, h, hf => by
    have hn : n < (cfgM m hO).N := by omega
    rw [Pipeline.Cfg.fresh_succ _ _ n hn, Bool.or_eq_true, Bool.and_eq_true] at hf
    rcases hf with hf | ⟨hi, hf⟩
    · have hN : grid0.N = 143 := N_0
      have h143 : n + 1 < grid0.N := h
      rcases (flush_iff hr hE hO ⟨n, hn⟩).mp hf with h1 | h1
      · have h1 : n = 142 := h1
        omega
      · exact ⟨Items.live_of_tile_ne hE h1, Or.inr h1⟩
    · exfalso
      have hl := (fresh_first hO n hn hf).1
      have hd := (idleM m hO ⟨n, hn⟩).mp hi
      clear hi
      have hc := coord_val ⟨n, hn⟩
      have hl' : Live s ((grid0.coords ⟨n, hn⟩) 0).val := by rw [hc]; exact hl
      obtain ⟨b1, b2⟩ := live_branches hr hE (grid0.coords ⟨n, hn⟩) hl'
      obtain ⟨-, -, g1, g2, g3⟩ := Items.lo_hi s hl'
      by_cases h5 : hi s ((grid0.coords ⟨n, hn⟩) 0).val - lo s ((grid0.coords ⟨n, hn⟩) 0).val = 512
      · exact hd.1 (b1.mpr h5)
      · exact hd.2 (b2.mpr (by omega))

theorem good (hO : Ok m) : Good m hO := by
  intro t hf
  obtain ⟨hl, h1⟩ := fresh_first m hr hE hO t.val t.isLt hf
  have hc := coord_val t
  have hl' : Live s ((grid0.coords t) 0).val := by rw [hc]; exact hl
  obtain ⟨b1, b2⟩ := live_branches hr hE (grid0.coords t) hl'
  obtain ⟨-, -, g1, g2, g3⟩ := Items.lo_hi s hl'
  by_cases h5 : hi s ((grid0.coords t) 0).val - lo s ((grid0.coords t) 0).val = 512
  · exact Or.inl (b1.mpr h5)
  · refine Or.inr ⟨b2.mpr (by omega), ?_⟩
    rw [wFirst_eq hr, hc, if_pos h1]

end

/-- The sizes of the groups in the launch memory. -/
abbrev szs : ℕ → ℕ := Items.sizesOf (m ((0 : Dev nD).tc.loc main_arg4) : IVec S16 32)

theorem tbl_rows (hE : E (szs m) 16 = 65536) : ∃ L < 16, Rows (szs m) (tbl m 0 : IVec S5x143 32) L :=
  table_rows (fun b => m ((0 : Dev nD), b)) (szs m) (fun j => Items.sizesOf_word _ j) hE

theorem ok_of_sizes (hE : E (szs m) 16 = 65536) : Ok m := by
  obtain ⟨L, hL, hr⟩ := tbl_rows m hE
  exact ok_of_rows hr hE hL

/-- Under the precondition every run ends with the arguments as they were and every semaphore at zero. -/
theorem quiet (hE : E (szs m) 16 = 65536) : θ_run (defs (F := F)) (onTc (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  obtain ⟨L, hL, hr⟩ := tbl_rows m hE
  exact frame m ρ (ok_of_sizes m hE) (good m hr hE _)

end Cert.Kernel.Gen

end
-- ==== Proof.KernelIdealRuns.lean ====
/- What the body's runs share: the memory when the pipelined region is entered, the prefetched table read off it, the blocks of the windows. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations before the region, in order. -/
abbrev hostLines : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Core `c`'s TensorCore buffers when the region is entered. -/
abbrev V (c : Dev nD) (b : Ref sig .tc) : Buf (Elt F) ((c : Thread nD τ).loc b) := StableHlo.after hostLines.flatten (fun b => m (c, b)) b

theorem hostLines_sub : (hostLines : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor

theorem hostLines_fresh : (hostLines : List (List (HloOp τ sig (Elt F)))).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩

set_option maxHeartbeats 1600000 in
/-- The program up to the region: its host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLines hostLines_sub hostLines_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5x143 .i32 := Memref.whole main_v81
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__gmm_kernel (grid0.coords t) (Memref.whole main_v81) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x4096 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096x3072 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x3072 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x3072 .bf16 := spec0_4.stage ((cfgM m hO).slots t 4)
abbrev hs0_4 (hO : Ok m) (t : Fin (cfgM m hO).N) : (ms0_4 m hO t).IsWhole := hstage0_4 (((cfgM m hO).slots t 4).cast nbuf0_4)

end Cert.KernelIdeal.Gen

end
-- ==== Proof.KernelIdealTable.lean ====
/- The table of work items, word by word: what the host lines before the region leave in it. -/
module

public import proofs.«01_k».proof.Proof.KernelIdealRuns
public import proofs.«01_k».proof.Proof.ItemWords
public import Idealize.ShloMosaic.Lib.StableHlo.RunRead
public import Idealize.ShloMosaic.Lib.Pipeline.Value
public import Idealize.ShloMosaic.Lib.Tactic.CleanTypes

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Routing Idealize.ShloMosaic.StableHlo Items
open Idealize.ShloMosaic.WordCmp (select_at cmpi_at constantI_at extui_at)
open Idealize.ShloMosaic.PlanTiles (minsi_word)

variable (W : Valuation τ sig (Elt F)) (s : ℕ → ℕ)

/-! ## What each stretch of host lines writes -/

abbrev ops1 : List (HloOp τ sig (Elt F)) := hostOps0 ++ (hostOps0_1 ++ hostOps0_2)
abbrev ops2 : List (HloOp τ sig (Elt F)) := hostOps0_3 ++ (hostOps0_4 ++ (hostOps0_5 ++ hostOps0_6))
abbrev ops3 : List (HloOp τ sig (Elt F)) := hostOps0_7 ++ hostOps0_8
abbrev ops4 : List (HloOp τ sig (Elt F)) := hostOps0_9 ++ (hostOps0_10 ++ hostOps0_11)
abbrev ops5 : List (HloOp τ sig (Elt F)) := hostOps0_12 ++ hostOps0_13
abbrev ops6 : List (HloOp τ sig (Elt F)) := hostOps0_14 ++ hostOps0_15
abbrev ops7 : List (HloOp τ sig (Elt F)) := hostOps0_16 ++ hostOps0_17

theorem s1_v0 (hx : ∀ j : Fin 16, (W (Proc.devRef .tc main_arg4) : IVec S16 32) (ValueIdx.ix1 j) = BitVec.ofNat 32 (s j)) (j : Fin 16) : (after ops1 W (Proc.devRef .tc main_v0) : IVec S16 32) (ValueIdx.ix1 j) = BitVec.ofNat 32 (E s (j+1)) := by
  after_reads_simp; (try simp -implicitDefEqProofs only [StableHlo.TRef.toBuf, StableHlo.TRef.ofBuf, cast_cast, cast_eq]); clean_types; (try simp only [id_eq])
  exact cumsum1 rfl _ s hx _ rfl _ _ j

theorem s1_v1 (hx : ∀ j : Fin 16, (W (Proc.devRef .tc main_arg4) : IVec S16 32) (ValueIdx.ix1 j) = BitVec.ofNat 32 (s j)) (j : Fin 16) : (after ops1 W (Proc.devRef .tc main_v1) : IVec S16 32) (ValueIdx.ix1 j) = BitVec.ofNat 32 (E s j) := by
  have h := s1_v0 W s hx j
  revert h
  after_reads_simp; (try simp -implicitDefEqProofs only [StableHlo.TRef.toBuf, StableHlo.TRef.ofBuf, cast_cast, cast_eq]); clean_types; (try simp only [id_eq])
  intro h
  refine (subi_ap _ _ _).trans ?_
  refine (congrArg₂ (· - ·) h (hx j)).trans ?_
  rw [E_succ]
  exact (ofNat32_sub (Nat.le_add_left _ _)).trans (by rw [Nat.add_sub_cancel])

theorem s1_v2 (hx : ∀ j : Fin 16, (W (Proc.devRef .tc main_arg4) : IVec S16 32) (ValueIdx.ix1 j) = BitVec.ofNat 32 (s j)) (hE : E s 16 = 65536) (j : Fin 16) : (after ops1 W (Proc.devRef .tc main_v2) : IVec S16 32) (ValueIdx.ix1 j) = BitVec.ofNat 32 (E s j / 512) := by
  have h := s1_v1 W s hx j
  revert h
  after_reads_simp; (try simp -implicitDefEqProofs only [StableHlo.TRef.toBuf, StableHlo.TRef.ofBuf, cast_cast, cast_eq]); clean_types; (try simp only [id_eq])
  intro h
  exact pyDiv_ap _ _ _ _ h rfl (by have := E_mono s (Nat.le_of_lt j.isLt); omega) (by decide) (by decide)

theorem s2_v11 (hx : ∀ j : Fin 16, (W (Proc.devRef .tc main_arg4) : IVec S16 32) (ValueIdx.ix1 j) = BitVec.ofNat 32 (s j)) (h0 : ∀ j : Fin 16, (W (Proc.devRef .tc main_v0) : IVec S16 32) (ValueIdx.ix1 j) = BitVec.ofNat 32 (E s (j+1)))
    (h2 : ∀ j : Fin 16, (W (Proc.devRef .tc main_v2) : IVec S16 32) (ValueIdx.ix1 j) = BitVec.ofNat 32 (E s j / 512)) (hE : E s 16 = 65536) (j : Fin 16) : (after ops2 W (Proc.devRef .tc main_v11) : IVec S16 32) (ValueIdx.ix1 j) = BitVec.ofNat 32 (T s j) := by
  after_reads_simp; (try simp -implicitDefEqProofs only [StableHlo.TRef.toBuf, StableHlo.TRef.ofBuf, cast_cast, cast_eq]); clean_types; (try simp only [id_eq])
  have h1 := E_mono s (Nat.succ_le_of_lt j.isLt)
  have h3 := E_succ s j
  simp only [Nat.succ_eq_add_one] at h1
  have e : ∀ (P : IVec S16 32) (x v : IVec S16 32) (a b : ℕ), x (ValueIdx.ix1 j) = BitVec.ofNat 32 (s j) → v (ValueIdx.ix1 j) = BitVec.ofNat 32 b → (0 < s j → b ≤ a) → (0 < s j → P (ValueIdx.ix1 j) = BitVec.ofNat 32 a) →
      select (cmpi .sgt x (broadcastInDim S16 ![] bcast_S_S16 (constantI S_ 32 0#32))) (addi (subi P v) (broadcastInDim S16 ![] bcast_S_S16 (constantI S_ 32 1#32)))
        (broadcastInDim S16 ![] bcast_S_S16 (constantI S_ 32 0#32)) (ValueIdx.ix1 j) = BitVec.ofNat 32 (if 0 < s j then a - b + 1 else 0) := by
    intro P x v a b hx hv hab hP
    rw [select_at, cmpi_at, bc0, constantI_at, hx, show (0#32 : BitVec 32) = BitVec.ofNat 32 0 from rfl, cmpi_sgt (by omega) (by decide), select_ofBool]
    by_cases hp : 0 < s j
    · rw [if_pos hp, if_pos hp, addi_ap, subi_ap, hP hp, hv, bc0, constantI_at, ofNat32_sub (hab hp), show (1#32 : BitVec 32) = BitVec.ofNat 32 1 from rfl, add_ofNat]
    · rw [if_neg hp, if_neg hp]
  refine (e _ _ _ ((E s (j+1) - 1) / 512) (E s j / 512) (hx j) (h2 j) ?_ ?_).trans rfl
  · intro hp; exact Nat.div_le_div_right (by omega)
  · intro hp
    refine pyDiv_ap _ _ _ _ ?_ rfl (by omega) (by decide) (by decide)
    have e2 : ∀ v : IVec S16 32, v (ValueIdx.ix1 j) = BitVec.ofNat 32 (E s (j+1)) → subi v (broadcastInDim S16 ![] bcast_S_S16 (constantI S_ 32 1#32)) (ValueIdx.ix1 j) = BitVec.ofNat 32 (E s (j+1) - 1) := by
      intro v hv
      rw [subi_ap, hv, bc0, constantI_at]
      exact ofNat32_sub (b := 1) (by omega)
    exact e2 _ (h0 j)

theorem s3_v12 (h11 : ∀ j : Fin 16, (W (Proc.devRef .tc main_v11) : IVec S16 32) (ValueIdx.ix1 j) = BitVec.ofNat 32 (T s j)) (j : Fin 16) : (after ops3 W (Proc.devRef .tc main_v12) : IVec S16 32) (ValueIdx.ix1 j) = BitVec.ofNat 32 (I s (j+1)) := by
  after_reads_simp; (try simp -implicitDefEqProofs only [StableHlo.TRef.toBuf, StableHlo.TRef.ofBuf, cast_cast, cast_eq]); clean_types; (try simp only [id_eq])
  exact cumsum1 rfl _ (T s) h11 _ rfl _ _ j

theorem s3_v13 (h11 : ∀ j : Fin 16, (W (Proc.devRef .tc main_v11) : IVec S16 32) (ValueIdx.ix1 j) = BitVec.ofNat 32 (T s j)) (j : Fin 16) : (after ops3 W (Proc.devRef .tc main_v13) : IVec S16 32) (ValueIdx.ix1 j) = BitVec.ofNat 32 (I s j) := by
  have h := s3_v12 W s h11 j
  revert h
  after_reads_simp; (try simp -implicitDefEqProofs only [StableHlo.TRef.toBuf, StableHlo.TRef.ofBuf, cast_cast, cast_eq]); clean_types; (try simp only [id_eq])
  intro h
  refine (subi_ap _ _ _).trans ?_
  refine (congrArg₂ (· - ·) h (h11 j)).trans ?_
  rw [I_succ]
  exact (ofNat32_sub (Nat.le_add_left _ _)).trans (by rw [Nat.add_sub_cancel])

theorem s3_v14 (p : Fin 143) : (after ops3 W (Proc.devRef .tc main_v14) : IVec S143 32) (ValueIdx.ix1 p) = BitVec.ofNat 32 p := by
  after_reads_simp; (try simp -implicitDefEqProofs only [StableHlo.TRef.toBuf, StableHlo.TRef.ofBuf, cast_cast, cast_eq]); clean_types; (try simp only [id_eq])
  rfl

theorem s3_v21 (h11 : ∀ j : Fin 16, (W (Proc.devRef .tc main_v11) : IVec S16 32) (ValueIdx.ix1 j) = BitVec.ofNat 32 (T s j)) (hE : E s 16 = 65536) (p : Fin 143) : (after ops3 W (Proc.devRef .tc main_v21) : IVec S143 32) (ValueIdx.ix1 p) = BitVec.ofNat 32 (grp s p) := by
  have h := s3_v12 W s h11
  revert h
  after_reads_simp; (try simp -implicitDefEqProofs only [StableHlo.TRef.toBuf, StableHlo.TRef.ofBuf, cast_cast, cast_eq]); clean_types; (try simp only [id_eq])
  intro h
  refine reduce_count (by decide) _ _ _ _ p (fun j => I s (j+1) ≤ p) (fun q => ?_)
  rw [cmpi_at, bcRows, bcCols, iota1_ap, h q, cmpi_sge (by have := p.isLt; omega) (by have := I16_le hE; have := I_mono s (Nat.succ_le_of_lt q.isLt); simp only [Nat.succ_eq_add_one] at this; omega), ofBool_one]

theorem s3_v23 (h11 : ∀ j : Fin 16, (W (Proc.devRef .tc main_v11) : IVec S16 32) (ValueIdx.ix1 j) = BitVec.ofNat 32 (T s j)) (hE : E s 16 = 65536) (p : Fin 143) : (after ops3 W (Proc.devRef .tc main_v23) : IVec S143 1) (ValueIdx.ix1 p) = BitVec.ofBool (decide (Live s p)) := by
  have h := s3_v21 W s h11 hE p
  revert h
  after_reads_simp; (try simp -implicitDefEqProofs only [StableHlo.TRef.toBuf, StableHlo.TRef.ofBuf, cast_cast, cast_eq]); clean_types; (try simp only [id_eq])
  intro h
  refine (congrArg₂ (IntOp.cmpi .slt) h ((bc0 _ _ _).trans rfl)).trans ?_
  exact cmpi_slt (Nat.lt_of_le_of_lt (Nat.count_le _) (by decide)) (by decide)

theorem s3_v27 (i : Fin 16) : ∃ k < 16, (after ops4 (after ops3 W) (Proc.devRef .tc main_v27) : IVec S16 32) (ValueIdx.ix1 i) = BitVec.ofNat 32 k := by
  after_reads_simp; (try simp -implicitDefEqProofs only [StableHlo.TRef.toBuf, StableHlo.TRef.ofBuf, cast_cast, cast_eq]); clean_types; (try simp only [id_eq])
  rw [select_at, bc0, iota1_ap]
  unfold Scalar.select
  split
  · exact ⟨i, i.isLt, rfl⟩
  · exact ⟨0, by decide, rfl⟩

theorem s4_v28 (h27 : ∀ i : Fin 16, ∃ k < 16, (after ops4 W (Proc.devRef .tc main_v27) : IVec S16 32) (ValueIdx.ix1 i) = BitVec.ofNat 32 k) :
    ∃ k < 16, (after ops4 W (Proc.devRef .tc main_v28) : IVec S_ 32) ValueIdx.ix0 = BitVec.ofNat 32 k := by
  revert h27
  after_reads_simp; (try simp -implicitDefEqProofs only [StableHlo.TRef.toBuf, StableHlo.TRef.ofBuf, cast_cast, cast_eq]); clean_types; (try simp only [id_eq])
  intro h27
  exact reduce_max _ 16 (by decide) h27 _ _

theorem s4_v29 {L : ℕ} (h28 : (after ops4 W (Proc.devRef .tc main_v28) : IVec S_ 32) ValueIdx.ix0 = BitVec.ofNat 32 L)
    (h21 : ∀ p : Fin 143, (W (Proc.devRef .tc main_v21) : IVec S143 32) (ValueIdx.ix1 p) = BitVec.ofNat 32 (grp s p)) (h23 : ∀ p : Fin 143, (W (Proc.devRef .tc main_v23) : IVec S143 1) (ValueIdx.ix1 p) = BitVec.ofBool (decide (Live s p))) (p : Fin 143) :
    (after ops4 W (Proc.devRef .tc main_v29) : IVec S143 32) (ValueIdx.ix1 p) = BitVec.ofNat 32 (if Live s p then grp s p else L) := by
  revert h28
  after_reads_simp; (try simp -implicitDefEqProofs only [StableHlo.TRef.toBuf, StableHlo.TRef.ofBuf, cast_cast, cast_eq]); clean_types; (try simp only [id_eq])
  intro h28
  rw [select_at, bc0, h21, h23, h28, select_ofNat]

theorem s5_v46 {L : ℕ} (h29 : ∀ p : Fin 143, (W (Proc.devRef .tc main_v29) : IVec S143 32) (ValueIdx.ix1 p) = BitVec.ofNat 32 (if Live s p then grp s p else L)) (h23 : ∀ p : Fin 143, (W (Proc.devRef .tc main_v23) : IVec S143 1) (ValueIdx.ix1 p) = BitVec.ofBool (decide (Live s p)))
    (h2 : ∀ j : Fin 16, (W (Proc.devRef .tc main_v2) : IVec S16 32) (ValueIdx.ix1 j) = BitVec.ofNat 32 (E s j / 512)) (h13 : ∀ j : Fin 16, (W (Proc.devRef .tc main_v13) : IVec S16 32) (ValueIdx.ix1 j) = BitVec.ofNat 32 (I s j)) (h14 : ∀ p : Fin 143, (W (Proc.devRef .tc main_v14) : IVec S143 32) (ValueIdx.ix1 p) = BitVec.ofNat 32 p) (p : Fin 143) :
    (after ops5 W (Proc.devRef .tc main_v46) : IVec S143 32) (ValueIdx.ix1 p) = BitVec.ofNat 32 (tile s p) := by
  after_reads_simp; (try simp -implicitDefEqProofs only [StableHlo.TRef.toBuf, StableHlo.TRef.ofBuf, cast_cast, cast_eq]); clean_types; (try simp only [id_eq])
  rw [select_at, bc0, h23, select_ofBool]
  unfold tile
  by_cases hl : Live s p
  · rw [if_pos hl, if_pos hl, subi_ap, addi_ap, h14]
    have hi := live_bounds s hl
    rw [gather_take1 _ rfl rfl rfl rfl _ _ p ⟨grp s p, hl⟩ (by rw [bcCol, select_at, cmpi_at, bc0, constantI_at, h29, if_pos hl, wrap_ofNat (by omega)]) (by decide),
      gather_take1 _ rfl rfl rfl rfl _ _ p ⟨grp s p, hl⟩ (by rw [bcCol, select_at, cmpi_at, bc0, constantI_at, h29, if_pos hl, wrap_ofNat (by omega)]) (by decide), h2, h13, add_ofNat,
      ofNat32_sub (by have := live_bounds s hl; simp only at *; omega)]
  · rw [if_neg hl, if_neg hl]; rfl

theorem s6_v57 {L : ℕ} (h29 : ∀ p : Fin 143, (W (Proc.devRef .tc main_v29) : IVec S143 32) (ValueIdx.ix1 p) = BitVec.ofNat 32 (if Live s p then grp s p else L)) (h23 : ∀ p : Fin 143, (W (Proc.devRef .tc main_v23) : IVec S143 1) (ValueIdx.ix1 p) = BitVec.ofBool (decide (Live s p)))
    (h1 : ∀ j : Fin 16, (W (Proc.devRef .tc main_v1) : IVec S16 32) (ValueIdx.ix1 j) = BitVec.ofNat 32 (E s j)) (h46 : ∀ p : Fin 143, (W (Proc.devRef .tc main_v46) : IVec S143 32) (ValueIdx.ix1 p) = BitVec.ofNat 32 (tile s p)) (hE : E s 16 = 65536) (p : Fin 143) :
    (after ops6 W (Proc.devRef .tc main_v57) : IVec S143 32) (ValueIdx.ix1 p) = BitVec.ofNat 32 (lo s p) := by
  after_reads_simp; (try simp -implicitDefEqProofs only [StableHlo.TRef.toBuf, StableHlo.TRef.ofBuf, cast_cast, cast_eq]); clean_types; (try simp only [id_eq])
  rw [select_at, bc0, h23, select_ofBool]
  unfold lo
  by_cases hl : Live s p
  · have ht := tile_lt hE p
    have he := E_mono s (Nat.le_of_lt hl)
    rw [if_pos hl, if_pos hl, maxsi_apply, muli_ap, bc0, constantI_at, h46]
    rw [gather_take1 _ rfl rfl rfl rfl _ _ p ⟨grp s p, hl⟩ (by rw [bcCol, select_at, cmpi_at, bc0, constantI_at, h29, if_pos hl, wrap_ofNat (by omega)]) (by decide), h1,
      show (512#32 : BitVec 32) = BitVec.ofNat 32 512 from rfl, mul_ofNat, maxsi_word (by simp only; omega) (by omega)]
  · rw [if_neg hl, if_neg hl]; rfl

theorem s7_v70 {L : ℕ} (h29 : ∀ p : Fin 143, (W (Proc.devRef .tc main_v29) : IVec S143 32) (ValueIdx.ix1 p) = BitVec.ofNat 32 (if Live s p then grp s p else L)) (h23 : ∀ p : Fin 143, (W (Proc.devRef .tc main_v23) : IVec S143 1) (ValueIdx.ix1 p) = BitVec.ofBool (decide (Live s p)))
    (h0 : ∀ j : Fin 16, (W (Proc.devRef .tc main_v0) : IVec S16 32) (ValueIdx.ix1 j) = BitVec.ofNat 32 (E s (j+1))) (h46 : ∀ p : Fin 143, (W (Proc.devRef .tc main_v46) : IVec S143 32) (ValueIdx.ix1 p) = BitVec.ofNat 32 (tile s p)) (hE : E s 16 = 65536) (p : Fin 143) :
    (after ops7 W (Proc.devRef .tc main_v70) : IVec S143 32) (ValueIdx.ix1 p) = BitVec.ofNat 32 (hi s p) := by
  after_reads_simp; (try simp -implicitDefEqProofs only [StableHlo.TRef.toBuf, StableHlo.TRef.ofBuf, cast_cast, cast_eq]); clean_types; (try simp only [id_eq])
  rw [select_at, bc0, h23, select_ofBool]
  unfold hi
  by_cases hl : Live s p
  · have ht := tile_lt hE p
    have he : E s (grp s p + 1) ≤ E s 16 := E_mono s (Nat.succ_le_of_lt hl)
    rw [if_pos hl, if_pos hl, minsi_apply, muli_ap, addi_ap, bc0, bc0, constantI_at, constantI_at, h46]
    rw [gather_take1 _ rfl rfl rfl rfl _ _ p ⟨grp s p, hl⟩ (by rw [bcCol, select_at, cmpi_at, bc0, constantI_at, h29, if_pos hl, wrap_ofNat (by omega)]) (by decide), h0,
      show (512#32 : BitVec 32) = BitVec.ofNat 32 512 from rfl, show (1#32 : BitVec 32) = BitVec.ofNat 32 1 from rfl, add_ofNat, mul_ofNat]
    rw [minsi_word (by simp only; omega) (by omega), Nat.min_comm]
  · rw [if_neg hl, if_neg hl]; rfl

theorem keep1_arg4 : after ops1 W (Proc.devRef .tc main_arg4) = W (Proc.devRef .tc main_arg4) := by
  after_reads_simp

theorem keep2_v0 : after ops2 W (Proc.devRef .tc main_v0) = W (Proc.devRef .tc main_v0) := by
  after_reads_simp

theorem keep3_v0 : after ops3 W (Proc.devRef .tc main_v0) = W (Proc.devRef .tc main_v0) := by
  after_reads_simp

theorem keep4_v0 : after ops4 W (Proc.devRef .tc main_v0) = W (Proc.devRef .tc main_v0) := by
  after_reads_simp

theorem keep5_v0 : after ops5 W (Proc.devRef .tc main_v0) = W (Proc.devRef .tc main_v0) := by
  after_reads_simp

theorem keep6_v0 : after ops6 W (Proc.devRef .tc main_v0) = W (Proc.devRef .tc main_v0) := by
  after_reads_simp

theorem keep2_v1 : after ops2 W (Proc.devRef .tc main_v1) = W (Proc.devRef .tc main_v1) := by
  after_reads_simp

theorem keep3_v1 : after ops3 W (Proc.devRef .tc main_v1) = W (Proc.devRef .tc main_v1) := by
  after_reads_simp

theorem keep4_v1 : after ops4 W (Proc.devRef .tc main_v1) = W (Proc.devRef .tc main_v1) := by
  after_reads_simp

theorem keep5_v1 : after ops5 W (Proc.devRef .tc main_v1) = W (Proc.devRef .tc main_v1) := by
  after_reads_simp

theorem keep2_v2 : after ops2 W (Proc.devRef .tc main_v2) = W (Proc.devRef .tc main_v2) := by
  after_reads_simp

theorem keep3_v2 : after ops3 W (Proc.devRef .tc main_v2) = W (Proc.devRef .tc main_v2) := by
  after_reads_simp

theorem keep4_v2 : after ops4 W (Proc.devRef .tc main_v2) = W (Proc.devRef .tc main_v2) := by
  after_reads_simp

theorem keep4_v13 : after ops4 W (Proc.devRef .tc main_v13) = W (Proc.devRef .tc main_v13) := by
  after_reads_simp

theorem keep4_v14 : after ops4 W (Proc.devRef .tc main_v14) = W (Proc.devRef .tc main_v14) := by
  after_reads_simp

theorem keep4_v23 : after ops4 W (Proc.devRef .tc main_v23) = W (Proc.devRef .tc main_v23) := by
  after_reads_simp

theorem keep5_v23 : after ops5 W (Proc.devRef .tc main_v23) = W (Proc.devRef .tc main_v23) := by
  after_reads_simp

theorem keep6_v23 : after ops6 W (Proc.devRef .tc main_v23) = W (Proc.devRef .tc main_v23) := by
  after_reads_simp

theorem keep5_v29 : after ops5 W (Proc.devRef .tc main_v29) = W (Proc.devRef .tc main_v29) := by
  after_reads_simp

theorem keep6_v29 : after ops6 W (Proc.devRef .tc main_v29) = W (Proc.devRef .tc main_v29) := by
  after_reads_simp

theorem keep7_v29 : after ops7 W (Proc.devRef .tc main_v29) = W (Proc.devRef .tc main_v29) := by
  after_reads_simp

theorem keep6_v46 : after ops6 W (Proc.devRef .tc main_v46) = W (Proc.devRef .tc main_v46) := by
  after_reads_simp

theorem keep7_v46 : after ops7 W (Proc.devRef .tc main_v46) = W (Proc.devRef .tc main_v46) := by
  after_reads_simp

theorem keep7_v57 : after ops7 W (Proc.devRef .tc main_v57) = W (Proc.devRef .tc main_v57) := by
  after_reads_simp

theorem keep1_arg1 : after ops1 W (Proc.devRef .tc main_arg1) = W (Proc.devRef .tc main_arg1) := by
  after_reads_simp

theorem keep2_arg1 : after ops2 W (Proc.devRef .tc main_arg1) = W (Proc.devRef .tc main_arg1) := by
  after_reads_simp

theorem keep3_arg1 : after ops3 W (Proc.devRef .tc main_arg1) = W (Proc.devRef .tc main_arg1) := by
  after_reads_simp

theorem keep4_arg1 : after ops4 W (Proc.devRef .tc main_arg1) = W (Proc.devRef .tc main_arg1) := by
  after_reads_simp

theorem keep5_arg1 : after ops5 W (Proc.devRef .tc main_arg1) = W (Proc.devRef .tc main_arg1) := by
  after_reads_simp

theorem keep6_arg1 : after ops6 W (Proc.devRef .tc main_arg1) = W (Proc.devRef .tc main_arg1) := by
  after_reads_simp

theorem keep7_arg1 : after ops7 W (Proc.devRef .tc main_arg1) = W (Proc.devRef .tc main_arg1) := by
  after_reads_simp

theorem keep1_arg3 : after ops1 W (Proc.devRef .tc main_arg3) = W (Proc.devRef .tc main_arg3) := by
  after_reads_simp

theorem keep2_arg3 : after ops2 W (Proc.devRef .tc main_arg3) = W (Proc.devRef .tc main_arg3) := by
  after_reads_simp

theorem keep3_arg3 : after ops3 W (Proc.devRef .tc main_arg3) = W (Proc.devRef .tc main_arg3) := by
  after_reads_simp

theorem keep4_arg3 : after ops4 W (Proc.devRef .tc main_arg3) = W (Proc.devRef .tc main_arg3) := by
  after_reads_simp

theorem keep5_arg3 : after ops5 W (Proc.devRef .tc main_arg3) = W (Proc.devRef .tc main_arg3) := by
  after_reads_simp

theorem keep6_arg3 : after ops6 W (Proc.devRef .tc main_arg3) = W (Proc.devRef .tc main_arg3) := by
  after_reads_simp

theorem keep7_arg3 : after ops7 W (Proc.devRef .tc main_arg3) = W (Proc.devRef .tc main_arg3) := by
  after_reads_simp

theorem cat5_ap {α : Type} (h5 : Shape.Concatenates [S1x143, S1x143, S1x143, S1x143, S1x143] S5x143 0) (v0 v1 v2 v3 v4 : S1x143.Idx → α) (r : Fin 143) :
    concatenate S5x143 0 [⟨S1x143, v0⟩, ⟨S1x143, v1⟩, ⟨S1x143, v2⟩, ⟨S1x143, v3⟩, ⟨S1x143, v4⟩] h5 (ValueIdx.ix2 (0 : Fin 5) r) = v0 (ValueIdx.ix2 (0 : Fin 1) r)
      ∧ concatenate S5x143 0 [⟨S1x143, v0⟩, ⟨S1x143, v1⟩, ⟨S1x143, v2⟩, ⟨S1x143, v3⟩, ⟨S1x143, v4⟩] h5 (ValueIdx.ix2 (1 : Fin 5) r) = v1 (ValueIdx.ix2 (0 : Fin 1) r)
      ∧ concatenate S5x143 0 [⟨S1x143, v0⟩, ⟨S1x143, v1⟩, ⟨S1x143, v2⟩, ⟨S1x143, v3⟩, ⟨S1x143, v4⟩] h5 (ValueIdx.ix2 (2 : Fin 5) r) = v2 (ValueIdx.ix2 (0 : Fin 1) r)
      ∧ concatenate S5x143 0 [⟨S1x143, v0⟩, ⟨S1x143, v1⟩, ⟨S1x143, v2⟩, ⟨S1x143, v3⟩, ⟨S1x143, v4⟩] h5 (ValueIdx.ix2 (3 : Fin 5) r) = v3 (ValueIdx.ix2 (0 : Fin 1) r)
      ∧ concatenate S5x143 0 [⟨S1x143, v0⟩, ⟨S1x143, v1⟩, ⟨S1x143, v2⟩, ⟨S1x143, v3⟩, ⟨S1x143, v4⟩] h5 (ValueIdx.ix2 (4 : Fin 5) r) = v4 (ValueIdx.ix2 (0 : Fin 1) r) := by
  have off : ∀ (y : Fin 5) (b : Fin S1x143.rank), b.cast (rfl : S1x143.rank = S5x143.rank) ≠ (0 : Fin S5x143.rank) →
      ((ValueIdx.ix2 (0 : Fin 1) r : S1x143.Idx) b).val = ((ValueIdx.ix2 y r : S5x143.Idx) (b.cast rfl)).val := fun y b hb =>
    match b, hb with | ⟨1, _⟩, _ => rfl | ⟨0, _⟩, hb => absurd rfl hb
  let xs : List ((s : Shape) × (s.Idx → α)) := [⟨S1x143, v0⟩, ⟨S1x143, v1⟩, ⟨S1x143, v2⟩, ⟨S1x143, v3⟩, ⟨S1x143, v4⟩]
  exact ⟨concatenate_apply_piece (t := S5x143) 0 xs h5 (ValueIdx.ix2 (0 : Fin 5) r) 0 (by show 0 < 5; omega) S1x143 v0 rfl rfl 0 rfl (ValueIdx.ix2 (0 : Fin 1) r) (off 0) rfl,
    concatenate_apply_piece (t := S5x143) 0 xs h5 (ValueIdx.ix2 (1 : Fin 5) r) 1 (by show 1 < 5; omega) S1x143 v1 rfl rfl 1 rfl (ValueIdx.ix2 (0 : Fin 1) r) (off 1) rfl,
    concatenate_apply_piece (t := S5x143) 0 xs h5 (ValueIdx.ix2 (2 : Fin 5) r) 2 (by show 2 < 5; omega) S1x143 v2 rfl rfl 2 rfl (ValueIdx.ix2 (0 : Fin 1) r) (off 2) rfl,
    concatenate_apply_piece (t := S5x143) 0 xs h5 (ValueIdx.ix2 (3 : Fin 5) r) 3 (by show 3 < 5; omega) S1x143 v3 rfl rfl 3 rfl (ValueIdx.ix2 (0 : Fin 1) r) (off 3) rfl,
    concatenate_apply_piece (t := S5x143) 0 xs h5 (ValueIdx.ix2 (4 : Fin 5) r) 4 (by show 4 < 5; omega) S1x143 v4 rfl rfl 4 rfl (ValueIdx.ix2 (0 : Fin 1) r) (off 4) rfl⟩

theorem row_ap {α : Type} (h : S143.BroadcastsInDim S1x143 (![1] : Fin 1 → Fin S1x143.rank)) (v : S143.Idx → α) (q : Fin 143) :
    broadcastInDim S1x143 ![1] h v (ValueIdx.ix2 (0 : Fin 1) q) = v (ValueIdx.ix1 q) := by
  refine broadcastInDim_apply _ h v _ _ fun a => ?_
  match a with
  | ⟨0, _⟩ => rfl

/-- The mark of an item whose tile is not the tile of the item before. -/
theorem mark_ap (x : IVec S143 32) (c : BitVec 32) (hx : ∀ p : Fin 143, x (ValueIdx.ix1 p) = BitVec.ofNat 32 (tile s p)) (ht : ∀ i, tile s i < 128) (hc : c = 4294967295#32) (p : Fin 143) :
    extui 32 (cmpi .ne x (concatenate S143 0 [⟨S1, broadcastInDim S1 ![] bcast_S_S1 (constantI S_ 32 c)⟩, ⟨S142, extractStridedSlice S142 ![0] x slices_S143_S142_0⟩] concatenates_S1_S142_S143_d0)) natLt_1_32 (ValueIdx.ix1 p)
      = BitVec.ofNat 32 (if First s p then 1 else 0) := by
  have hcat : (concatenate S143 0 [⟨S1, broadcastInDim S1 ![] bcast_S_S1 (constantI S_ 32 c)⟩, ⟨S142, extractStridedSlice S142 ![0] x slices_S143_S142_0⟩] concatenates_S1_S142_S143_d0) (ValueIdx.ix1 p)
      = BitVec.ofNat 32 (if p.val = 0 then 4294967295 else tile s (p.val - 1)) := by
    by_cases hp : p.val = 0
    · rw [if_pos hp]
      refine (concatenate_pair_apply_left (t := S143) (s₁ := S1) (s₂ := S142) 0 _ _ _ (ValueIdx.ix1 p) rfl (ValueIdx.ix1 (0 : Fin 1)) fun b => ?_).trans ?_
      · match b with
        | ⟨0, _⟩ => exact hp.symm
      · rw [bc0, constantI_at, hc]
    · rw [if_neg hp]
      refine (concatenate_pair_apply_right (t := S143) (s₁ := S1) (s₂ := S142) 0 _ _ _ (ValueIdx.ix1 p) rfl rfl (ValueIdx.ix1 (⟨p.val - 1, by omega⟩ : Fin 142)) (fun b hb => ?_) ?_).trans ?_
      · match b, hb with
        | ⟨0, _⟩, hb => exact absurd rfl hb
      · show p.val - 1 + 1 = p.val
        omega
      · refine (slice1 0 x slices_S143_S142_0 _ (by show 0 + (p.val - 1) < 143; omega)).trans ?_
        refine (hx _).trans ?_
        show BitVec.ofNat 32 (tile s (0 + (p.val - 1))) = _
        rw [Nat.zero_add]
  rw [extui_at, cmpi_at, hcat, hx, cmpi_ne (by have := ht p; omega) (by have := ht (p - 1); split <;> omega)]
  have hiff : (tile s p ≠ if p.val = 0 then 4294967295 else tile s (p.val - 1)) ↔ First s p := by
    unfold First
    by_cases hp : p.val = 0
    · rw [if_pos hp]; exact ⟨fun _ => Or.inl hp, fun _ => by have := ht p; omega⟩
    · rw [if_neg hp]; exact ⟨fun h => Or.inr h, fun h => h.resolve_left hp⟩
  by_cases hf : First s p
  · rw [if_pos hf, decide_eq_true (hiff.mpr hf)]; rfl
  · rw [if_neg hf, decide_eq_false (fun h => hf (hiff.mp h))]; rfl

/-- The five rows of the table. -/
def Rows (x : IVec S5x143 32) (L : ℕ) : Prop := ∀ p : Fin 143,
  x (ValueIdx.ix2 (0 : Fin 5) p) = BitVec.ofNat 32 (tile s p) ∧ x (ValueIdx.ix2 (1 : Fin 5) p) = BitVec.ofNat 32 (if Live s p then grp s p else L)
    ∧ x (ValueIdx.ix2 (2 : Fin 5) p) = BitVec.ofNat 32 (lo s p) ∧ x (ValueIdx.ix2 (3 : Fin 5) p) = BitVec.ofNat 32 (hi s p)
    ∧ x (ValueIdx.ix2 (4 : Fin 5) p) = BitVec.ofNat 32 (if First s p then 1 else 0)

abbrev ops8a : List (HloOp τ sig (Elt F)) :=
  [ StableHlo.nullary main_c_24 (constantI S_ 32 4294967295#32),
    StableHlo.unary main_c_24 main_v71 (broadcastInDim S1 ![] bcast_S_S1 : (⟨S_, .i32⟩ : BufTy).Contents (Elt F) → (⟨S1, .i32⟩ : BufTy).Contents (Elt F)),
    StableHlo.unary main_v46 main_v72 ((extractStridedSlice S142 ![0] · slices_S143_S142_0) : (⟨S143, .i32⟩ : BufTy).Contents (Elt F) → (⟨S142, .i32⟩ : BufTy).Contents (Elt F)),
    StableHlo.binary main_v71 main_v72 main_v73 ((fun a b => concatenate S143 0 [⟨S1, a⟩, ⟨S142, b⟩] concatenates_S1_S142_S143_d0) : (⟨S1, .i32⟩ : BufTy).Contents (Elt F) → (⟨S142, .i32⟩ : BufTy).Contents (Elt F) → (⟨S143, .i32⟩ : BufTy).Contents (Elt F)),
    StableHlo.binary main_v46 main_v73 main_v74 (cmpi .ne : (⟨S143, .i32⟩ : BufTy).Contents (Elt F) → (⟨S143, .i32⟩ : BufTy).Contents (Elt F) → (⟨S143, .i1⟩ : BufTy).Contents (Elt F)),
    StableHlo.unary main_v74 main_v75 ((extui 32 · natLt_1_32) : (⟨S143, .i1⟩ : BufTy).Contents (Elt F) → (⟨S143, .i32⟩ : BufTy).Contents (Elt F)),
    StableHlo.unary main_v46 main_v76 (broadcastInDim S1x143 ![1] bcast_S143_S1x143_1 : (⟨S143, .i32⟩ : BufTy).Contents (Elt F) → (⟨S1x143, .i32⟩ : BufTy).Contents (Elt F)),
    StableHlo.unary main_v29 main_v77 (broadcastInDim S1x143 ![1] bcast_S143_S1x143_1 : (⟨S143, .i32⟩ : BufTy).Contents (Elt F) → (⟨S1x143, .i32⟩ : BufTy).Contents (Elt F)),
    StableHlo.unary main_v57 main_v78 (broadcastInDim S1x143 ![1] bcast_S143_S1x143_1 : (⟨S143, .i32⟩ : BufTy).Contents (Elt F) → (⟨S1x143, .i32⟩ : BufTy).Contents (Elt F)),
    StableHlo.unary main_v70 main_v79 (broadcastInDim S1x143 ![1] bcast_S143_S1x143_1 : (⟨S143, .i32⟩ : BufTy).Contents (Elt F) → (⟨S1x143, .i32⟩ : BufTy).Contents (Elt F)),
    StableHlo.unary main_v75 main_v80 (broadcastInDim S1x143 ![1] bcast_S143_S1x143_1 : (⟨S143, .i32⟩ : BufTy).Contents (Elt F) → (⟨S1x143, .i32⟩ : BufTy).Contents (Elt F)) ]

abbrev ops8b : List (HloOp τ sig (Elt F)) :=
  [ StableHlo.nary ![main_v76, main_v77, main_v78, main_v79, main_v80] main_v81 (fun u => (concatenate S5x143 0 [⟨S1x143, (u 0 : (⟨S1x143, .i32⟩ : BufTy).Contents (Elt F))⟩, ⟨S1x143, (u 1 : (⟨S1x143, .i32⟩ : BufTy).Contents (Elt F))⟩, ⟨S1x143, (u 2 : (⟨S1x143, .i32⟩ : BufTy).Contents (Elt F))⟩, ⟨S1x143, (u 3 : (⟨S1x143, .i32⟩ : BufTy).Contents (Elt F))⟩, ⟨S1x143, (u 4 : (⟨S1x143, .i32⟩ : BufTy).Contents (Elt F))⟩] concatenates_S1x143_S1x143_S1x143_S1x143_S1x143_S5x143_d0 : (⟨S5x143, .i32⟩ : BufTy).Contents (Elt F))),
    StableHlo.reshape main_arg1 main_v82 (rfl : (.f32 : EltTy) = .f32) shapeCasts_S65536_S65536x1,
    StableHlo.reshape main_arg3 main_v83 (rfl : (.f32 : EltTy) = .f32) shapeCasts_S16x3072_S16x1x3072 ]

theorem s8a {L : ℕ} (h46 : ∀ p : Fin 143, (W (Proc.devRef .tc main_v46) : IVec S143 32) (ValueIdx.ix1 p) = BitVec.ofNat 32 (tile s p)) (h29 : ∀ p : Fin 143, (W (Proc.devRef .tc main_v29) : IVec S143 32) (ValueIdx.ix1 p) = BitVec.ofNat 32 (if Live s p then grp s p else L))
    (h57 : ∀ p : Fin 143, (W (Proc.devRef .tc main_v57) : IVec S143 32) (ValueIdx.ix1 p) = BitVec.ofNat 32 (lo s p)) (h70 : ∀ p : Fin 143, (W (Proc.devRef .tc main_v70) : IVec S143 32) (ValueIdx.ix1 p) = BitVec.ofNat 32 (hi s p)) (ht : ∀ i, tile s i < 128) (p : Fin 143) :
    (after ops8a W (Proc.devRef .tc main_v76) : IVec S1x143 32) (ValueIdx.ix2 (0 : Fin 1) p) = BitVec.ofNat 32 (tile s p)
    ∧ (after ops8a W (Proc.devRef .tc main_v77) : IVec S1x143 32) (ValueIdx.ix2 (0 : Fin 1) p) = BitVec.ofNat 32 (if Live s p then grp s p else L)
    ∧ (after ops8a W (Proc.devRef .tc main_v78) : IVec S1x143 32) (ValueIdx.ix2 (0 : Fin 1) p) = BitVec.ofNat 32 (lo s p)
    ∧ (after ops8a W (Proc.devRef .tc main_v79) : IVec S1x143 32) (ValueIdx.ix2 (0 : Fin 1) p) = BitVec.ofNat 32 (hi s p)
    ∧ (after ops8a W (Proc.devRef .tc main_v80) : IVec S1x143 32) (ValueIdx.ix2 (0 : Fin 1) p) = BitVec.ofNat 32 (if First s p then 1 else 0) := by
  refine ⟨?_, ?_, ?_, ?_, ?_⟩
  · after_reads_simp; (try simp -implicitDefEqProofs only [StableHlo.TRef.toBuf, StableHlo.TRef.ofBuf, cast_cast, cast_eq]); clean_types; (try simp only [id_eq])
    exact (row_ap _ _ p).trans (h46 p)
  · after_reads_simp; (try simp -implicitDefEqProofs only [StableHlo.TRef.toBuf, StableHlo.TRef.ofBuf, cast_cast, cast_eq]); clean_types; (try simp only [id_eq])
    exact (row_ap _ _ p).trans (h29 p)
  · after_reads_simp; (try simp -implicitDefEqProofs only [StableHlo.TRef.toBuf, StableHlo.TRef.ofBuf, cast_cast, cast_eq]); clean_types; (try simp only [id_eq])
    exact (row_ap _ _ p).trans (h57 p)
  · after_reads_simp; (try simp -implicitDefEqProofs only [StableHlo.TRef.toBuf, StableHlo.TRef.ofBuf, cast_cast, cast_eq]); clean_types; (try simp only [id_eq])
    exact (row_ap _ _ p).trans (h70 p)
  · after_reads_simp; (try simp -implicitDefEqProofs only [StableHlo.TRef.toBuf, StableHlo.TRef.ofBuf, cast_cast, cast_eq]); clean_types; (try simp only [id_eq])
    exact (row_ap _ _ p).trans (mark_ap s _ _ h46 ht rfl p)

theorem s8b {L : ℕ} (h : ∀ p : Fin 143, (W (Proc.devRef .tc main_v76) : IVec S1x143 32) (ValueIdx.ix2 (0 : Fin 1) p) = BitVec.ofNat 32 (tile s p)
    ∧ (W (Proc.devRef .tc main_v77) : IVec S1x143 32) (ValueIdx.ix2 (0 : Fin 1) p) = BitVec.ofNat 32 (if Live s p then grp s p else L)
    ∧ (W (Proc.devRef .tc main_v78) : IVec S1x143 32) (ValueIdx.ix2 (0 : Fin 1) p) = BitVec.ofNat 32 (lo s p)
    ∧ (W (Proc.devRef .tc main_v79) : IVec S1x143 32) (ValueIdx.ix2 (0 : Fin 1) p) = BitVec.ofNat 32 (hi s p)
    ∧ (W (Proc.devRef .tc main_v80) : IVec S1x143 32) (ValueIdx.ix2 (0 : Fin 1) p) = BitVec.ofNat 32 (if First s p then 1 else 0)) :
    Rows s (after ops8b W (Proc.devRef .tc main_v81) : IVec S5x143 32) L := by
  intro p
  after_reads_simp; (try simp -implicitDefEqProofs only [StableHlo.TRef.toBuf, StableHlo.TRef.ofBuf, cast_cast, cast_eq]); clean_types; (try simp only [id_eq])
  obtain ⟨h0, h1, h2, h3, h4⟩ := cat5_ap concatenates_S1x143_S1x143_S1x143_S1x143_S1x143_S5x143_d0 (W (Proc.devRef .tc main_v76) : IVec S1x143 32) (W (Proc.devRef .tc main_v77) : IVec S1x143 32)
    (W (Proc.devRef .tc main_v78) : IVec S1x143 32) (W (Proc.devRef .tc main_v79) : IVec S1x143 32) (W (Proc.devRef .tc main_v80) : IVec S1x143 32) p
  obtain ⟨g0, g1, g2, g3, g4⟩ := h p
  exact ⟨h0.trans g0, h1.trans g1, h2.trans g2, h3.trans g3, h4.trans g4⟩

theorem after_two (l k : List (HloOp τ sig (Elt F))) (W : Valuation τ sig (Elt F)) : after (l ++ k) W = after k (after l W) := by
  induction l generalizing W with
  | nil => rfl
  | cons op l ih => exact ih _

theorem lines_eq : hostLines (F := F).flatten = ops1 ++ (ops2 ++ (ops3 ++ (ops4 ++ (ops5 ++ (ops6 ++ (ops7 ++ (ops8a ++ ops8b))))))) := rfl

theorem after_lines (W : Valuation τ sig (Elt F)) : after hostLines.flatten W = after ops8b (after ops8a (after ops7 (after ops6 (after ops5 (after ops4 (after ops3 (after ops2 (after ops1 W)))))))) := by
  rw [lines_eq]
  simp only [after_two]

/-- The table that the host lines leave, from the sizes of the groups. -/
theorem table_rows (hx : ∀ j : Fin 16, (W (Proc.devRef .tc main_arg4) : IVec S16 32) (ValueIdx.ix1 j) = BitVec.ofNat 32 (s j)) (hE : E s 16 = 65536) :
    ∃ L < 16, Rows s (after hostLines.flatten W (Proc.devRef .tc main_v81) : IVec S5x143 32) L := by
  have a0 := s1_v0 W s hx
  have a1 := s1_v1 W s hx
  have a2 := s1_v2 W s hx hE
  have ax : ∀ j : Fin 16, (after ops1 W (Proc.devRef .tc main_arg4) : IVec S16 32) (ValueIdx.ix1 j) = BitVec.ofNat 32 (s j) := fun j => (congrFun (keep1_arg4 W) _).trans (hx j)
  rw [after_lines]
  generalize after ops1 W = W1 at a0 a1 a2 ax ⊢
  have b11 := s2_v11 W1 s ax a0 a2 hE
  have b0 : ∀ j : Fin 16, (after ops2 W1 (Proc.devRef .tc main_v0) : IVec S16 32) (ValueIdx.ix1 j) = _ := fun j => (congrFun (keep2_v0 W1) _).trans (a0 j)
  have b1 : ∀ j : Fin 16, (after ops2 W1 (Proc.devRef .tc main_v1) : IVec S16 32) (ValueIdx.ix1 j) = _ := fun j => (congrFun (keep2_v1 W1) _).trans (a1 j)
  have b2 : ∀ j : Fin 16, (after ops2 W1 (Proc.devRef .tc main_v2) : IVec S16 32) (ValueIdx.ix1 j) = _ := fun j => (congrFun (keep2_v2 W1) _).trans (a2 j)
  clear a0 a1 a2 ax
  generalize after ops2 W1 = W2 at b11 b0 b1 b2 ⊢
  have c0 : ∀ j : Fin 16, (after ops3 W2 (Proc.devRef .tc main_v0) : IVec S16 32) (ValueIdx.ix1 j) = _ := fun j => (congrFun (keep3_v0 W2) _).trans (b0 j)
  have c1 : ∀ j : Fin 16, (after ops3 W2 (Proc.devRef .tc main_v1) : IVec S16 32) (ValueIdx.ix1 j) = _ := fun j => (congrFun (keep3_v1 W2) _).trans (b1 j)
  have c2 : ∀ j : Fin 16, (after ops3 W2 (Proc.devRef .tc main_v2) : IVec S16 32) (ValueIdx.ix1 j) = _ := fun j => (congrFun (keep3_v2 W2) _).trans (b2 j)
  have c13 := s3_v13 W2 s b11
  have c14 := s3_v14 W2
  have c21 := s3_v21 W2 s b11 hE
  have c23 := s3_v23 W2 s b11 hE
  have c27 := s3_v27 W2
  clear b0 b1 b2
  generalize after ops3 W2 = W3 at c0 c1 c2 c13 c14 c21 c23 c27 ⊢
  obtain ⟨L, hL, c28⟩ := s4_v28 W3 c27
  refine ⟨L, hL, ?_⟩
  have d29 := s4_v29 W3 s c28 c21 c23
  have d0 : ∀ j : Fin 16, (after ops4 W3 (Proc.devRef .tc main_v0) : IVec S16 32) (ValueIdx.ix1 j) = _ := fun j => (congrFun (keep4_v0 W3) _).trans (c0 j)
  have d1 : ∀ j : Fin 16, (after ops4 W3 (Proc.devRef .tc main_v1) : IVec S16 32) (ValueIdx.ix1 j) = _ := fun j => (congrFun (keep4_v1 W3) _).trans (c1 j)
  have d2 : ∀ j : Fin 16, (after ops4 W3 (Proc.devRef .tc main_v2) : IVec S16 32) (ValueIdx.ix1 j) = _ := fun j => (congrFun (keep4_v2 W3) _).trans (c2 j)
  have d13 : ∀ j : Fin 16, (after ops4 W3 (Proc.devRef .tc main_v13) : IVec S16 32) (ValueIdx.ix1 j) = _ := fun j => (congrFun (keep4_v13 W3) _).trans (c13 j)
  have d14 : ∀ j : Fin 143, (after ops4 W3 (Proc.devRef .tc main_v14) : IVec S143 32) (ValueIdx.ix1 j) = _ := fun j => (congrFun (keep4_v14 W3) _).trans (c14 j)
  have d23 : ∀ j : Fin 143, (after ops4 W3 (Proc.devRef .tc main_v23) : IVec S143 1) (ValueIdx.ix1 j) = _ := fun j => (congrFun (keep4_v23 W3) _).trans (c23 j)
  clear c0 c1 c2 c13 c14 c21 c23 c27 c28
  generalize after ops4 W3 = W4 at d29 d0 d1 d2 d13 d14 d23 ⊢
  have e46 := s5_v46 W4 s d29 d23 d2 d13 d14
  have e0 : ∀ j : Fin 16, (after ops5 W4 (Proc.devRef .tc main_v0) : IVec S16 32) (ValueIdx.ix1 j) = _ := fun j => (congrFun (keep5_v0 W4) _).trans (d0 j)
  have e1 : ∀ j : Fin 16, (after ops5 W4 (Proc.devRef .tc main_v1) : IVec S16 32) (ValueIdx.ix1 j) = _ := fun j => (congrFun (keep5_v1 W4) _).trans (d1 j)
  have e23 : ∀ j : Fin 143, (after ops5 W4 (Proc.devRef .tc main_v23) : IVec S143 1) (ValueIdx.ix1 j) = _ := fun j => (congrFun (keep5_v23 W4) _).trans (d23 j)
  have e29 : ∀ j : Fin 143, (after ops5 W4 (Proc.devRef .tc main_v29) : IVec S143 32) (ValueIdx.ix1 j) = _ := fun j => (congrFun (keep5_v29 W4) _).trans (d29 j)
  clear d29 d0 d1 d2 d13 d14 d23
  generalize after ops5 W4 = W5 at e46 e0 e1 e23 e29 ⊢
  have f57 := s6_v57 W5 s e29 e23 e1 e46 hE
  have f0 : ∀ j : Fin 16, (after ops6 W5 (Proc.devRef .tc main_v0) : IVec S16 32) (ValueIdx.ix1 j) = _ := fun j => (congrFun (keep6_v0 W5) _).trans (e0 j)
  have f23 : ∀ j : Fin 143, (after ops6 W5 (Proc.devRef .tc main_v23) : IVec S143 1) (ValueIdx.ix1 j) = _ := fun j => (congrFun (keep6_v23 W5) _).trans (e23 j)
  have f29 : ∀ j : Fin 143, (after ops6 W5 (Proc.devRef .tc main_v29) : IVec S143 32) (ValueIdx.ix1 j) = _ := fun j => (congrFun (keep6_v29 W5) _).trans (e29 j)
  have f46 : ∀ j : Fin 143, (after ops6 W5 (Proc.devRef .tc main_v46) : IVec S143 32) (ValueIdx.ix1 j) = _ := fun j => (congrFun (keep6_v46 W5) _).trans (e46 j)
  clear e46 e0 e1 e23 e29
  generalize after ops6 W5 = W6 at f57 f0 f23 f29 f46 ⊢
  have g70 := s7_v70 W6 s f29 f23 f0 f46 hE
  have g29 : ∀ j : Fin 143, (after ops7 W6 (Proc.devRef .tc main_v29) : IVec S143 32) (ValueIdx.ix1 j) = _ := fun j => (congrFun (keep7_v29 W6) _).trans (f29 j)
  have g46 : ∀ j : Fin 143, (after ops7 W6 (Proc.devRef .tc main_v46) : IVec S143 32) (ValueIdx.ix1 j) = _ := fun j => (congrFun (keep7_v46 W6) _).trans (f46 j)
  have g57 : ∀ j : Fin 143, (after ops7 W6 (Proc.devRef .tc main_v57) : IVec S143 32) (ValueIdx.ix1 j) = _ := fun j => (congrFun (keep7_v57 W6) _).trans (f57 j)
  clear f57 f0 f23 f29 f46
  generalize after ops7 W6 = W7 at g70 g29 g46 g57 ⊢
  exact s8b _ s (s8a W7 s g46 g29 g57 g70 (tile_lt hE))

theorem lines_v82 (W : Valuation τ sig (Elt F)) : (after hostLines.flatten W (Proc.devRef .tc main_v82) : (⟨S65536x1, .f32⟩ : BufTy).Contents (Elt F)) = shapeCast S65536x1 (W (Proc.devRef .tc main_arg1)) shapeCasts_S65536_S65536x1 := by
  rw [after_lines]
  refine Eq.trans (b := shapeCast S65536x1 (after ops7 (after ops6 (after ops5 (after ops4 (after ops3 (after ops2 (after ops1 W)))))) (Proc.devRef .tc main_arg1)) shapeCasts_S65536_S65536x1) ?_ ?_
  · generalize after ops7 (after ops6 (after ops5 (after ops4 (after ops3 (after ops2 (after ops1 W)))))) = W7
    after_reads_simp; (try simp -implicitDefEqProofs only [StableHlo.TRef.toBuf, StableHlo.TRef.ofBuf, cast_cast, cast_eq]); clean_types; (try simp only [id_eq])
    rfl
  · rw [keep7_arg1, keep6_arg1, keep5_arg1, keep4_arg1, keep3_arg1, keep2_arg1, keep1_arg1]

theorem lines_v83 (W : Valuation τ sig (Elt F)) : (after hostLines.flatten W (Proc.devRef .tc main_v83) : (⟨S16x1x3072, .f32⟩ : BufTy).Contents (Elt F)) = shapeCast S16x1x3072 (W (Proc.devRef .tc main_arg3)) shapeCasts_S16x3072_S16x1x3072 := by
  rw [after_lines]
  refine Eq.trans (b := shapeCast S16x1x3072 (after ops7 (after ops6 (after ops5 (after ops4 (after ops3 (after ops2 (after ops1 W)))))) (Proc.devRef .tc main_arg3)) shapeCasts_S16x3072_S16x1x3072) ?_ ?_
  · generalize after ops7 (after ops6 (after ops5 (after ops4 (after ops3 (after ops2 (after ops1 W)))))) = W7
    after_reads_simp; (try simp -implicitDefEqProofs only [StableHlo.TRef.toBuf, StableHlo.TRef.ofBuf, cast_cast, cast_eq]); clean_types; (try simp only [id_eq])
    rfl
  · rw [keep7_arg3, keep6_arg3, keep5_arg3, keep4_arg3, keep3_arg3, keep2_arg3, keep1_arg3]

end Cert.KernelIdeal.Gen

end
-- ==== Proof.KernelIdealBody.lean ====
/- The kernel's body run in its three cases: a work item that covers a whole tile, one that covers part of it, and one without rows. -/
module

public import proofs.«01_k».proof.Proof.KernelIdealRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table's words at a work item -/

/-- The tile of work item `i`, -/
abbrev wTile (pf : pre0.Contents (Elt F)) (i : grid0.Coords) : BitVec 32 := pf.at 0 (Rect.unit (s := S5x143) (k0_off1 i) S1x1.size (k0_off1_inb i)) numel1_S1x1
/-- its first row, -/
abbrev wLo (pf : pre0.Contents (Elt F)) (i : grid0.Coords) : BitVec 32 := pf.at 0 (Rect.unit (s := S5x143) (k0_off3 i) S1x1.size (k0_off3_inb i)) numel1_S1x1
/-- the row after its last, -/
abbrev wHi (pf : pre0.Contents (Elt F)) (i : grid0.Coords) : BitVec 32 := pf.at 0 (Rect.unit (s := S5x143) (k0_off4 i) S1x1.size (k0_off4_inb i)) numel1_S1x1
/-- and whether it is the first item of its tile. -/
abbrev wFirst (pf : pre0.Contents (Elt F)) (i : grid0.Coords) : BitVec 32 := pf.at 0 (Rect.unit (s := S5x143) (k0_off5 i) S1x1.size (k0_off5_inb i)) numel1_S1x1
/-- The item covers a whole tile: the body's first branch. -/
abbrev isWhole (pf : pre0.Contents (Elt F)) (i : grid0.Coords) : Prop := k0_cond1 (wTile pf i) (wLo pf i) (wHi pf i) = 1#1
/-- The item covers part of a tile: the body's second branch. -/
abbrev isPart (pf : pre0.Contents (Elt F)) (i : grid0.Coords) : Prop := k0_cond2 (wTile pf i) (wLo pf i) (wHi pf i) = 1#1

/-! ## What the body leaves in the output tile -/

/-- Columns 0 to 511 of the output tile, the weights and the column scales. -/
abbrev rO0 : Rect S512x3072 := Rect.unit (s := S512x3072) ![0, 0] S512x512.size inb_S512x3072_S512x512_0_0
abbrev rW0 : Rect S1x4096x3072 := Rect.unit (s := S1x4096x3072) ![0, 0, 0] S1x4096x512.size inb_S1x4096x3072_S1x4096x512_0_0_0
abbrev rS0 : Rect S1x1x3072 := Rect.unit (s := S1x1x3072) ![0, 0, 0] S1x1x512.size inb_S1x1x3072_S1x1x512_0_0_0
/-- Columns 512 to 1023 of the output tile, the weights and the column scales. -/
abbrev rO1 : Rect S512x3072 := Rect.unit (s := S512x3072) ![0, 512] S512x512.size inb_S512x3072_S512x512_0_512
abbrev rW1 : Rect S1x4096x3072 := Rect.unit (s := S1x4096x3072) ![0, 0, 512] S1x4096x512.size inb_S1x4096x3072_S1x4096x512_0_0_512
abbrev rS1 : Rect S1x1x3072 := Rect.unit (s := S1x1x3072) ![0, 0, 512] S1x1x512.size inb_S1x1x3072_S1x1x512_0_0_512
/-- Columns 1024 to 1535 of the output tile, the weights and the column scales. -/
abbrev rO2 : Rect S512x3072 := Rect.unit (s := S512x3072) ![0, 1024] S512x512.size inb_S512x3072_S512x512_0_1024
abbrev rW2 : Rect S1x4096x3072 := Rect.unit (s := S1x4096x3072) ![0, 0, 1024] S1x4096x512.size inb_S1x4096x3072_S1x4096x512_0_0_1024
abbrev rS2 : Rect S1x1x3072 := Rect.unit (s := S1x1x3072) ![0, 0, 1024] S1x1x512.size inb_S1x1x3072_S1x1x512_0_0_1024
/-- Columns 1536 to 2047 of the output tile, the weights and the column scales. -/
abbrev rO3 : Rect S512x3072 := Rect.unit (s := S512x3072) ![0, 1536] S512x512.size inb_S512x3072_S512x512_0_1536
abbrev rW3 : Rect S1x4096x3072 := Rect.unit (s := S1x4096x3072) ![0, 0, 1536] S1x4096x512.size inb_S1x4096x3072_S1x4096x512_0_0_1536
abbrev rS3 : Rect S1x1x3072 := Rect.unit (s := S1x1x3072) ![0, 0, 1536] S1x1x512.size inb_S1x1x3072_S1x1x512_0_0_1536
/-- Columns 2048 to 2559 of the output tile, the weights and the column scales. -/
abbrev rO4 : Rect S512x3072 := Rect.unit (s := S512x3072) ![0, 2048] S512x512.size inb_S512x3072_S512x512_0_2048
abbrev rW4 : Rect S1x4096x3072 := Rect.unit (s := S1x4096x3072) ![0, 0, 2048] S1x4096x512.size inb_S1x4096x3072_S1x4096x512_0_0_2048
abbrev rS4 : Rect S1x1x3072 := Rect.unit (s := S1x1x3072) ![0, 0, 2048] S1x1x512.size inb_S1x1x3072_S1x1x512_0_0_2048
/-- Columns 2560 to 3071 of the output tile, the weights and the column scales. -/
abbrev rO5 : Rect S512x3072 := Rect.unit (s := S512x3072) ![0, 2560] S512x512.size inb_S512x3072_S512x512_0_2560
abbrev rW5 : Rect S1x4096x3072 := Rect.unit (s := S1x4096x3072) ![0, 0, 2560] S1x4096x512.size inb_S1x4096x3072_S1x4096x512_0_0_2560
abbrev rS5 : Rect S1x1x3072 := Rect.unit (s := S1x1x3072) ![0, 0, 2560] S1x1x512.size inb_S1x1x3072_S1x1x512_0_0_2560
/-- The whole tile of codes and of row scales. -/
abbrev rX : Rect S512x4096 := Rect.unit (s := S512x4096) ![0, 0] S512x4096.size inb_S512x4096_S512x4096_0_0
abbrev rR : Rect S512x1 := Rect.unit (s := S512x1) ![0, 0] S512x1.size inb_S512x1_S512x1_0_0

/-- The six column pieces put together. -/
def sixChunks (f0 f1 f2 f3 f4 f5 : Vec F S512x512 .bf16) : Vec F S512x3072 .bf16 :=
  View.canon [(⟨rO5, f5⟩ : View.Piece (Elt F) S512x3072 .bf16), ⟨rO4, f4⟩, ⟨rO3, f3⟩, ⟨rO2, f2⟩, ⟨rO1, f1⟩, ⟨rO0, f0⟩]

/-- The scaled products of a tile of rows with one expert's weights. -/
def wholeOut (x0 : Vec F S512x4096 .fp8e4m3) (x1 : Vec F S512x1 .f32) (x2 : Vec F S1x4096x3072 .fp8e4m3) (x3 : Vec F S1x1x3072 .f32) : Vec F S512x3072 .bf16 :=
  sixChunks (k0_pay5 (View.ld x0 rX) (View.ld x2 rW0) (View.ld x1 rR) (View.ld x3 rS0)) (k0_pay5 (View.ld x0 rX) (View.ld x2 rW1) (View.ld x1 rR) (View.ld x3 rS1)) (k0_pay5 (View.ld x0 rX) (View.ld x2 rW2) (View.ld x1 rR) (View.ld x3 rS2)) (k0_pay5 (View.ld x0 rX) (View.ld x2 rW3) (View.ld x1 rR) (View.ld x3 rS3)) (k0_pay5 (View.ld x0 rX) (View.ld x2 rW4) (View.ld x1 rR) (View.ld x3 rS4)) (k0_pay5 (View.ld x0 rX) (View.ld x2 rW5) (View.ld x1 rR) (View.ld x3 rS5))

/-- The same in the item's rows `v5` to `v9`, and zero (`first`) or the earlier contents in the other rows. -/
def partOut (v5 v9 : BitVec 32) (first : BitVec 1) (x0 : Vec F S512x4096 .fp8e4m3) (x1 : Vec F S512x1 .f32) (x2 : Vec F S1x4096x3072 .fp8e4m3) (x3 : Vec F S1x1x3072 .f32) (x4 : Vec F S512x3072 .bf16) : Vec F S512x3072 .bf16 :=
  sixChunks (k0_pay11 v5 v9 first (View.ld x0 rX) (View.ld x2 rW0) (View.ld x1 rR) (View.ld x3 rS0) (View.ld x4 rO0)) (k0_pay11 v5 v9 first (View.ld x0 rX) (View.ld x2 rW1) (View.ld x1 rR) (View.ld x3 rS1) (View.ld x4 rO1)) (k0_pay11 v5 v9 first (View.ld x0 rX) (View.ld x2 rW2) (View.ld x1 rR) (View.ld x3 rS2) (View.ld x4 rO2)) (k0_pay11 v5 v9 first (View.ld x0 rX) (View.ld x2 rW3) (View.ld x1 rR) (View.ld x3 rS3) (View.ld x4 rO3)) (k0_pay11 v5 v9 first (View.ld x0 rX) (View.ld x2 rW4) (View.ld x1 rR) (View.ld x3 rS4) (View.ld x4 rO4)) (k0_pay11 v5 v9 first (View.ld x0 rX) (View.ld x2 rW5) (View.ld x1 rR) (View.ld x3 rS5) (View.ld x4 rO5))

/-- `partOut` at item `i`. -/
abbrev partAt (pf : pre0.Contents (Elt F)) (i : grid0.Coords) (x0 : Vec F S512x4096 .fp8e4m3) (x1 : Vec F S512x1 .f32) (x2 : Vec F S1x4096x3072 .fp8e4m3) (x3 : Vec F S1x1x3072 .f32) (x4 : Vec F S512x3072 .bf16) : Vec F S512x3072 .bf16 :=
  partOut (Scalar.subi (wLo pf i) (Scalar.muli (wTile pf i) 512#32)) (Scalar.subi (wHi pf i) (Scalar.muli (wTile pf i) 512#32)) (Scalar.cmpi .eq (wFirst pf i) 1#32) x0 x1 x2 x3 x4

/-- Every place of the tile is in one of the six pieces. -/
theorem cover6 (f0 f1 f2 f3 f4 f5 : Vec F S512x512 .bf16) (y : S512x3072.Idx) :
    ∃ p ∈ [(⟨rO5, f5⟩ : View.Piece (Elt F) S512x3072 .bf16), ⟨rO4, f4⟩, ⟨rO3, f3⟩, ⟨rO2, f2⟩, ⟨rO1, f1⟩, ⟨rO0, f0⟩], y ∈ p.1.set :=
  View.cover_of_tiled [(⟨rO5, f5⟩ : View.Piece (Elt F) S512x3072 .bf16), ⟨rO4, f4⟩, ⟨rO3, f3⟩, ⟨rO2, f2⟩, ⟨rO1, f1⟩, ⟨rO0, f0⟩] S512x512.size rfl y

theorem pay1_eq (x : Vec F S512x4096 .fp8e4m3) (w : Vec F S1x4096x512 .fp8e4m3) (r : Vec F S512x1 .f32) (s : Vec F S1x1x512 .f32) :
    k0_pay1 x (k0_pay9 w) r s = k0_pay5 x w r s := rfl
theorem pay2_eq : (k0_pay2 (F := F)) = k0_pay5 := rfl
theorem pay6_eq : (k0_pay6 (F := F)) = k0_pay5 := rfl
theorem pay7_eq : (k0_pay7 (F := F)) = k0_pay5 := rfl
theorem pay8_eq : (k0_pay8 (F := F)) = k0_pay5 := rfl
section
variable (v5 v9 : BitVec 32) (first : BitVec 1) (x : Vec F S512x4096 .fp8e4m3) (w : Vec F S1x4096x512 .fp8e4m3) (r : Vec F S512x1 .f32) (s : Vec F S1x1x512 .f32) (old : Vec F S512x512 .bf16)
theorem pay13_eq : k0_pay13 first (k0_pay10 v5 v9) (k0_pay12 x w r) s old = k0_pay11 v5 v9 first x w r s old := rfl
theorem pay14_eq : k0_pay14 first (k0_pay10 v5 v9) x w r s old = k0_pay11 v5 v9 first x w r s old := rfl
theorem pay15_eq : k0_pay15 first (k0_pay10 v5 v9) x w r s old = k0_pay11 v5 v9 first x w r s old := rfl
theorem pay3_eq (v11 : BitVec 32) : k0_pay3 (F := F) v11 (k0_pay10 v5 v9) (k0_pay16 x w r) (k0_pay17 s) old = k0_pay11 v5 v9 (Scalar.cmpi .eq v11 1#32) x w r s old := rfl
theorem pay4_eq (v11 : BitVec 32) : k0_pay4 (F := F) v11 (k0_pay10 v5 v9) x w r s old = k0_pay11 v5 v9 (Scalar.cmpi .eq v11 1#32) x w r s old := rfl
end

set_option maxHeartbeats 4000000 in
/-- A work item that covers a whole tile. -/
theorem kernelRun_whole (c : Dev nD) (i : grid0.Coords) (arg2 : Memref sig .tc .vmem S512x4096 .fp8e4m3) (harg2 : arg2.IsWhole) (arg3 : Memref sig .tc .vmem S512x1 .f32) (harg3 : arg3.IsWhole) (arg4 : Memref sig .tc .vmem S1x4096x3072 .fp8e4m3) (harg4 : arg4.IsWhole) (arg5 : Memref sig .tc .vmem S1x1x3072 .f32) (harg5 : arg5.IsWhole) (arg6 : Memref sig .tc .vmem S512x3072 .bf16) (harg6 : arg6.IsWhole)
    (x0 : Vec F S512x4096 .fp8e4m3) (x1 : Vec F S512x1 .f32) (x2 : Vec F S1x4096x3072 .fp8e4m3) (x3 : Vec F S1x1x3072 .f32) (x4 : Vec F S512x3072 .bf16) (pf : pre0.Contents (Elt F))
    (hc0 : isWhole pf i) (hc1 : ¬ isPart pf i) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 (pf 0)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (wholeOut x0 x1 x2 x3) ∗ tbPt0 c tbM0_0 (pf 0)) -∗ K ⟨⟩))
          ⊢ wp frame (wpE (defs₀ (F := F)) Variants.none c none) E (cc0__gmm_kernel i tbM0_0 htbM0_0 arg2 harg2 arg3 harg3 arg4 harg4 arg5 harg5 arg6 harg6) K := by
    intro E K
    simp only [cc0__gmm_kernel_eq_skeleton]; unfold cc0__gmm_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, HT0, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (View.read_writes_eq_canon _ _ _ (cover6 _ _ _ _ _ _)).trans ?_
      simp only [View.readAt_eq_ld, Memref.IsWhole.read_unread, pay1_eq, pay2_eq, pay6_eq, pay7_eq, pay8_eq]
      delta kernelRun_whole.sl.r_4 kernelRun_whole.sl.r_5
      simp only [View.readAt_eq_ld, Memref.IsWhole.read_unread, pay1_eq]
      unfold wholeOut sixChunks
      rfl
    iexact HT0

set_option maxHeartbeats 4000000 in
/-- A work item that covers part of a tile. -/
theorem kernelRun_part (c : Dev nD) (i : grid0.Coords) (arg2 : Memref sig .tc .vmem S512x4096 .fp8e4m3) (harg2 : arg2.IsWhole) (arg3 : Memref sig .tc .vmem S512x1 .f32) (harg3 : arg3.IsWhole) (arg4 : Memref sig .tc .vmem S1x4096x3072 .fp8e4m3) (harg4 : arg4.IsWhole) (arg5 : Memref sig .tc .vmem S1x1x3072 .f32) (harg5 : arg5.IsWhole) (arg6 : Memref sig .tc .vmem S512x3072 .bf16) (harg6 : arg6.IsWhole)
    (x0 : Vec F S512x4096 .fp8e4m3) (x1 : Vec F S512x1 .f32) (x2 : Vec F S1x4096x3072 .fp8e4m3) (x3 : Vec F S1x1x3072 .f32) (x4 : Vec F S512x3072 .bf16) (pf : pre0.Contents (Elt F))
    (hc0 : ¬ isWhole pf i) (hc1 : isPart pf i) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 (pf 0)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (partAt pf i x0 x1 x2 x3 x4) ∗ tbPt0 c tbM0_0 (pf 0)) -∗ K ⟨⟩))
          ⊢ wp frame (wpE (defs₀ (F := F)) Variants.none c none) E (cc0__gmm_kernel i tbM0_0 htbM0_0 arg2 harg2 arg3 harg3 arg4 harg4 arg5 harg5 arg6 harg6) K := by
    intro E K
    simp only [cc0__gmm_kernel_eq_skeleton]; unfold cc0__gmm_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, HT0, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (View.read_writes_eq_canon _ _ _ (cover6 _ _ _ _ _ _)).trans ?_
      delta kernelRun_part.sl.r_4 kernelRun_part.sl.r_5 kernelRun_part.sl.r_6 kernelRun_part.sl.r_7 kernelRun_part.sl.v148 kernelRun_part.sl.v127 kernelRun_part.sl.v106 kernelRun_part.sl.v85 kernelRun_part.sl.v64
      have e0 : kernelRun_part.sl.r i pf = wTile pf i := rfl
      have e1 : kernelRun_part.sl.r_1 i pf = wLo pf i := rfl
      have e2 : kernelRun_part.sl.r_2 i pf = wHi pf i := rfl
      have e3 : kernelRun_part.sl.r_3 i pf = wFirst pf i := rfl
      simp only [e0, e1, e2, e3, View.readAt_eq_ld, Memref.IsWhole.read_unread, pay13_eq, pay14_eq, pay15_eq, pay3_eq, pay4_eq]
      unfold partAt partOut sixChunks
      generalize Scalar.subi (wLo pf i) (Scalar.muli (wTile pf i) 512#32) = v5
      generalize Scalar.subi (wHi pf i) (Scalar.muli (wTile pf i) 512#32) = v9
      generalize Scalar.cmpi .eq (wFirst pf i) 1#32 = fv
      rfl
    iexact HT0

set_option maxHeartbeats 4000000 in
/-- A work item without rows. -/
theorem kernelRun_none (c : Dev nD) (i : grid0.Coords) (arg2 : Memref sig .tc .vmem S512x4096 .fp8e4m3) (harg2 : arg2.IsWhole) (arg3 : Memref sig .tc .vmem S512x1 .f32) (harg3 : arg3.IsWhole) (arg4 : Memref sig .tc .vmem S1x4096x3072 .fp8e4m3) (harg4 : arg4.IsWhole) (arg5 : Memref sig .tc .vmem S1x1x3072 .f32) (harg5 : arg5.IsWhole) (arg6 : Memref sig .tc .vmem S512x3072 .bf16) (harg6 : arg6.IsWhole)
    (x0 : Vec F S512x4096 .fp8e4m3) (x1 : Vec F S512x1 .f32) (x2 : Vec F S1x4096x3072 .fp8e4m3) (x3 : Vec F S1x1x3072 .f32) (x4 : Vec F S512x3072 .bf16) (pf : pre0.Contents (Elt F))
    (hc0 : ¬ isWhole pf i) (hc1 : ¬ isPart pf i) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 (pf 0)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 (pf 0)) -∗ K ⟨⟩))
          ⊢ wp frame (wpE (defs₀ (F := F)) Variants.none c none) E (cc0__gmm_kernel i tbM0_0 htbM0_0 arg2 harg2 arg3 harg3 arg4 harg4 arg5 harg5 arg6 harg6) K := by
    intro E K
    simp only [cc0__gmm_kernel_eq_skeleton]; unfold cc0__gmm_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, HT0, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact harg6.read_unread _
    iexact HT0

end Cert.KernelIdeal.Gen

end
-- ==== Proof.KernelIdealFrame.lean ====
/- The program's run: what the body leaves item by item, the pipelined region, and the final memory. -/
module

public import proofs.«01_k».proof.Proof.KernelIdealBody
public import Idealize.ShloMosaic.Lib.Pipeline.TableIdle
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branches -/

/-- An item that covers a whole tile does not take the second branch. -/
theorem isWhole_not_isPart (pf : pre0.Contents (Elt F)) (i : grid0.Coords) (h : isWhole pf i) : ¬ isPart pf i := by
  unfold isWhole at h; unfold isPart
  generalize wTile pf i = a at *; generalize wLo pf i = b at *; generalize wHi pf i = d at *
  unfold k0_cond1 at h; unfold k0_cond2
  simp only [] at h ⊢
  generalize Scalar.subi (Scalar.subi d (Scalar.muli a 512#32)) (Scalar.subi b (Scalar.muli a 512#32)) = w at *
  have hw : w = 512#32 := by
    by_contra hne
    have : Scalar.cmpi .eq w 512#32 = 0#1 := by
      show BitVec.ofBool (w == 512#32) = 0#1
      rw [beq_eq_false_iff_ne.mpr hne]; rfl
    rw [this] at h
    exact absurd h (by decide)
  subst hw
  have : ∀ x : BitVec 1, ¬ Scalar.cmpi .ne (Scalar.extui (Scalar.andi x (Scalar.cmpi .slt 512#32 512#32)) : BitVec 32) 0#32 = 1#1 := by decide
  exact this _

/-- A word of the table read at an offset by the idle table is the word the body loads there. -/
theorem atD_eq (pf : pre0.Contents (Elt F)) (o : Fin 2 → ℕ) (h : ∀ a, o a + S1x1.size a ≤ S5x143.size a) :
    pf.atD 0 o = pf.at 0 (Rect.unit (s := S5x143) o S1x1.size h) numel1_S1x1 := by
  have hh : ∀ a : Fin 2, o a + 1 ≤ S5x143.size a := fun a => by
    have := h a; revert this; fin_cases a <;> exact fun h => h
  have e : pf.atD 0 o = pf 0 (fun a => ⟨o a, hh a⟩) := dif_pos hh
  rw [e]
  refine congrArg (pf 0) (funext fun a => Fin.ext ?_)
  fin_cases a <;> rfl

/-- The output window is idle exactly at the items without rows. -/
theorem idle0_4 (pf : pre0.Contents (Elt F)) (i : grid0.Coords) : idle0 pf 4 i = true ↔ ¬ isWhole pf i ∧ ¬ isPart pf i := by
  show (!(k0_cond1 (pf.atD 0 (k0_off1 i)) (pf.atD 0 (k0_off3 i)) (pf.atD 0 (k0_off4 i)) == 1#1) && !(k0_cond2 (pf.atD 0 (k0_off1 i)) (pf.atD 0 (k0_off3 i)) (pf.atD 0 (k0_off4 i)) == 1#1)) = true ↔ _
  rw [atD_eq pf _ (k0_off1_inb i), atD_eq pf _ (k0_off3_inb i), atD_eq pf _ (k0_off4_inb i)]
  unfold isWhole isPart
  simp only [Bool.and_eq_true, Bool.not_eq_true', beq_eq_false_iff_ne, ne_eq]

/-- At the first item of a tile the earlier contents do not matter. -/
theorem partAt_first (pf : pre0.Contents (Elt F)) (i : grid0.Coords) (h : wFirst pf i = 1#32) (x0 : Vec F S512x4096 .fp8e4m3) (x1 : Vec F S512x1 .f32) (x2 : Vec F S1x4096x3072 .fp8e4m3) (x3 : Vec F S1x1x3072 .f32) (x4 x4' : Vec F S512x3072 .bf16) :
    partAt pf i x0 x1 x2 x3 x4 = partAt pf i x0 x1 x2 x3 x4' := by
  unfold partAt partOut
  rw [h, show Scalar.cmpi .eq 1#32 1#32 = 1#1 from by decide]
  have e : ∀ (v5 v9 : BitVec 32) (x : Vec F S512x4096 .fp8e4m3) (w : Vec F S1x4096x512 .fp8e4m3) (r : Vec F S512x1 .f32) (s : Vec F S1x1x512 .f32) (o o' : Vec F S512x512 .bf16),
      k0_pay11 v5 v9 1#1 x w r s o = k0_pay11 v5 v9 1#1 x w r s o' := fun _ _ _ _ _ _ _ _ => rfl
  congr 1 <;> exact e _ _ _ _ _ _ _ _

/-! ## The output tile, item by item -/

/-- One item's effect on the output tile. -/
def outStep (pf : pre0.Contents (Elt F)) (i : grid0.Coords) (x0 : Vec F S512x4096 .fp8e4m3) (x1 : Vec F S512x1 .f32) (x2 : Vec F S1x4096x3072 .fp8e4m3) (x3 : Vec F S1x1x3072 .f32) (prev : Vec F S512x3072 .bf16) : Vec F S512x3072 .bf16 :=
  open Classical in if isWhole pf i then wholeOut x0 x1 x2 x3 else if isPart pf i then partAt pf i x0 x1 x2 x3 prev else prev

/-- The output tile after the body at item `n`. -/
def outAt (hO : Ok m) (c : Dev nD) : (n : ℕ) → n < (cfgM m hO).N → Vec F S512x3072 .bf16
  | 0, h => outStep (tbl m) (grid0.coords ⟨0, h⟩) (iblk m hO c 0 ⟨0, h⟩) (iblk m hO c 1 ⟨0, h⟩) (iblk m hO c 2 ⟨0, h⟩) (iblk m hO c 3 ⟨0, h⟩) (fun _ => Scalar.ofBits .bf16 0#16)
  | n + 1, h => outStep (tbl m) (grid0.coords ⟨n + 1, h⟩) (iblk m hO c 0 ⟨n + 1, h⟩) (iblk m hO c 1 ⟨n + 1, h⟩) (iblk m hO c 2 ⟨n + 1, h⟩) (iblk m hO c 3 ⟨n + 1, h⟩) (outAt hO c n (by omega))

/-- The output tile before the body at item `t`, where it is not fresh. -/
def prevAt (hO : Ok m) (c : Dev nD) (t : Fin (cfgM m hO).N) : Vec F S512x3072 .bf16 :=
  if t.val = 0 then (fun _ => Scalar.ofBits .bf16 0#16) else outAt m hO c (t.val - 1) (by omega)

theorem outAt_eq (hO : Ok m) (c : Dev nD) (t : Fin (cfgM m hO).N) :
    outAt m hO c t.val t.isLt = outStep (tbl m) (grid0.coords t) (iblk m hO c 0 t) (iblk m hO c 1 t) (iblk m hO c 2 t) (iblk m hO c 3 t) (prevAt m hO c t) := by
  obtain ⟨n, hn⟩ := t
  cases n with
  | zero => unfold prevAt outAt; rw [if_pos rfl]
  | succ n => unfold prevAt; rw [if_neg (Nat.succ_ne_zero n)]; rw [outAt]; rfl

/-- Where the output tile holds nothing yet, the item is a whole one or the first of its tile. -/
abbrev Good (hO : Ok m) : Prop := ∀ t : Fin (cfgM m hO).N, (cfgM m hO).fresh 4 t.val = true →
  isWhole (tbl m) (grid0.coords t) ∨ isPart (tbl m) (grid0.coords t) ∧ wFirst (tbl m) (grid0.coords t) = 1#32

/-- The proof data of the one pipeline on core `c`: the arrays as the region finds them (`V`); after the body at
    point `t` each input's buffer at its block and the output's at `outAt`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t.val t.isLt
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outAt m hO c t.val t.isLt := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

theorem idle_at (a : (pcfg0 (F := F)).Adm) (i : grid0.Coords) : (cfg0 a).idle 4 i = idle0 a.1 4 i := by
  have : ∀ w, (cfg0 a).idle w i = idle0 a.1 w i := fun w => by with_reducible exact Eq.refl _
  exact this 4

theorem idle_iff (pf : pre0.Contents (Elt F)) (hO) (t : Fin grid0.N) : (cfg0 (⟨pf, hO⟩ : (pcfg0 (F := F)).Adm)).idle 4 (grid0.coords t) = true ↔ ¬ isWhole pf (grid0.coords t) ∧ ¬ isPart pf (grid0.coords t) := by
  rw [idle_at]; exact (idle0_4 pf (grid0.coords t))

/-- The output window's idleness, at the pinned configuration. -/
theorem idleM (hO : Ok m) (t : Fin (cfgM m hO).N) : (cfgM m hO).idle 4 (grid0.coords t) = true ↔ ¬ isWhole (tbl m) (grid0.coords t) ∧ ¬ isPart (tbl m) (grid0.coords t) := by
  exact idle_iff (tbl m) hO t

/-- What the body finds in the output tile where it is not fresh: what the item before left. -/
theorem before0_4 (hO : Ok m) (c : Dev nD) (t : Fin (cfgM m hO).N) (d) (hfr : ¬ (cfgM m hO).fresh 4 t.val = true) :
    (dats m hO 0 c).before 4 t d = prevAt m hO c t := by
  refine (Pipeline.Dat.before_out_traj (dats m hO 0 c) 4 rfl (fun _ _ => rfl) (fun t ht hi hf => ?_) t.val t rfl d).trans ((if_neg hfr).trans ?_)
  · rw [after0_4, after0_4, outAt_eq]
    have hh := (idleM m hO t).mp hi
    unfold outStep prevAt
    rw [if_neg hh.1, if_neg hh.2, if_neg ht]
  · rw [after0_4]
    have h0 : t.val ≠ 0 := fun h => hfr (by rw [h]; rfl)
    unfold prevAt; rw [if_neg h0]

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- The body at any point: the inputs' memrefs hold their blocks (`before0_W`); so the
    run applies; the invariant passes through unread; the core owes nothing throughout. -/
theorem sound_body (hO : Ok m) (hG : Good m hO) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq]
  rw [show (dats m hO 0 c).leavesExact 0 t = owns (c : Thread nD τ) (ms0_0 m hO t) fullShare ((dats m hO 0 c).after 0 t) from by
      unfold Dat.leavesExact; rw [liveAt0_0 m hO t]; try rfl, after0_0]
  rw [show (dats m hO 0 c).leavesExact 1 t = owns (c : Thread nD τ) (ms0_1 m hO t) fullShare ((dats m hO 0 c).after 1 t) from by
      unfold Dat.leavesExact; rw [liveAt0_1 m hO t]; try rfl, after0_1]
  rw [show (dats m hO 0 c).leavesExact 2 t = owns (c : Thread nD τ) (ms0_2 m hO t) fullShare ((dats m hO 0 c).after 2 t) from by
      unfold Dat.leavesExact; rw [liveAt0_2 m hO t]; try rfl, after0_2]
  rw [show (dats m hO 0 c).leavesExact 3 t = owns (c : Thread nD τ) (ms0_3 m hO t) fullShare ((dats m hO 0 c).after 3 t) from by
      unfold Dat.leavesExact; rw [liveAt0_3 m hO t]; try rfl, after0_3]
  by_cases hW : isWhole (tbl m) (grid0.coords t)
  · have hP := isWhole_not_isPart (tbl m) (grid0.coords t) hW
    have hi : (cfgM m hO).idle 4 (grid0.coords t) = false := by
      rw [← Bool.not_eq_true, idleM]; exact fun h => h.1 hW
    rw [show (dats m hO 0 c).leavesExact 4 t = owns (c : Thread nD τ) (ms0_4 m hO t) fullShare ((dats m hO 0 c).after 4 t) from by
      unfold Dat.leavesExact; rw [hi]; try rfl, after0_4, outAt_eq]
    unfold outStep; rw [if_pos hW]
    iintro ⟨⟨HΦ, HT0⟩, Ho, ⟨%d0, H0⟩, ⟨%d1, H1⟩, ⟨%d2, H2⟩, ⟨%d3, H3⟩, ⟨%d4, H4⟩⟩
    iapply ((kernelRun_whole c (grid0.coords t) _ _ _ _ _ _ _ _ _ _ (iblk m hO c 0 t) (iblk m hO c 1 t) (iblk m hO c 2 t) (iblk m hO c 3 t) _ (tbl m) hW hP) Set.univ _)
    isplitl [H0]; · iexact H0
    isplitl [H1]; · iexact H1
    isplitl [H2]; · iexact H2
    isplitl [H3]; · iexact H3
    isplitl [H4]; · iexact H4
    isplitl [HT0]; · iexact HT0
    iintro ⟨H0, H1, H2, H3, H4, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    iexact H4
  by_cases hP : isPart (tbl m) (grid0.coords t)
  · have hi : (cfgM m hO).idle 4 (grid0.coords t) = false := by
      rw [← Bool.not_eq_true, idleM]; exact fun h => h.2 hP
    rw [show (dats m hO 0 c).leavesExact 4 t = owns (c : Thread nD τ) (ms0_4 m hO t) fullShare ((dats m hO 0 c).after 4 t) from by
      unfold Dat.leavesExact; rw [hi]; try rfl, after0_4, outAt_eq]
    unfold outStep; rw [if_neg hW, if_pos hP]
    have hb : ∀ d, partAt (tbl m) (grid0.coords t) (iblk m hO c 0 t) (iblk m hO c 1 t) (iblk m hO c 2 t) (iblk m hO c 3 t) ((dats m hO 0 c).before 4 t d)
        = partAt (tbl m) (grid0.coords t) (iblk m hO c 0 t) (iblk m hO c 1 t) (iblk m hO c 2 t) (iblk m hO c 3 t) (prevAt m hO c t) := fun d => by
      by_cases hfr : (cfgM m hO).fresh 4 t.val = true
      · rcases hG t hfr with h | h
        · exact absurd h hW
        · exact partAt_first _ _ h.2 _ _ _ _ _ _
      · rw [before0_4 m hO c t d hfr]
    iintro ⟨⟨HΦ, HT0⟩, Ho, ⟨%d0, H0⟩, ⟨%d1, H1⟩, ⟨%d2, H2⟩, ⟨%d3, H3⟩, ⟨%d4, H4⟩⟩
    iapply ((kernelRun_part c (grid0.coords t) _ _ _ _ _ _ _ _ _ _ (iblk m hO c 0 t) (iblk m hO c 1 t) (iblk m hO c 2 t) (iblk m hO c 3 t) _ (tbl m) hW hP) Set.univ _)
    isplitl [H0]; · iexact H0
    isplitl [H1]; · iexact H1
    isplitl [H2]; · iexact H2
    isplitl [H3]; · iexact H3
    isplitl [H4]; · iexact H4
    isplitl [HT0]; · iexact HT0
    iintro ⟨H0, H1, H2, H3, H4, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    rw [hb]; iexact H4
  · have hfr : ¬ (cfgM m hO).fresh 4 t.val = true := fun h => (hG t h).elim hW fun h => hP h.1
    have hi : (cfgM m hO).idle 4 (grid0.coords t) = true := (idleM m hO t).mpr ⟨hW, hP⟩
    have hb : ∀ d, (dats m hO 0 c).before 4 t d = prevAt m hO c t := fun d => before0_4 m hO c t d hfr
    have ha : (dats m hO 0 c).after 4 t = prevAt m hO c t := by
      rw [after0_4, outAt_eq]; unfold outStep; rw [if_neg hW, if_neg hP]
    have hl : owns (c : Thread nD τ) (ms0_4 m hO t) fullShare (prevAt m hO c t) ⊢ (dats m hO 0 c).leavesExact 4 t := by
      unfold Dat.leavesExact
      rw [show (cfgM m hO).idle 4 ((cfgM m hO).grid.coords t) = true from hi]
      cases ((cfgM m hO).win 4).flush t with
      | false => simp only [hb]; iintro H; iexists (fun _ => Scalar.ofBits .bf16 0#16); iexact H
      | true => simp only [ha]; exact .rfl
    simp only [hb]
    iintro ⟨⟨HΦ, HT0⟩, Ho, ⟨%d0, H0⟩, ⟨%d1, H1⟩, ⟨%d2, H2⟩, ⟨%d3, H3⟩, ⟨%d4, H4⟩⟩
    iapply ((kernelRun_none c (grid0.coords t) _ _ _ _ _ _ _ _ _ _ (iblk m hO c 0 t) (iblk m hO c 1 t) (iblk m hO c 2 t) (iblk m hO c 3 t) _ (tbl m) hW hP) Set.univ _)
    isplitl [H0]; · iexact H0
    isplitl [H1]; · iexact H1
    isplitl [H2]; · iexact H2
    isplitl [H3]; · iexact H3
    isplitl [H4]; · iexact H4
    isplitl [HT0]; · iexact HT0
    iintro ⟨H0, H1, H2, H3, H4, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    iapply hl; iexact H4
/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hG : Good m hO) (c : Dev nD) : BodyObligation (dats (F := F) m hO 0 c) (defs₀ (F := F)) Variants.none () Set.univ := fun t => by
  rw [bigSep_W0, bigSep_W0, defs₀_row m hO]
  exact triple_restated (sound_body m hO hG c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hG : Good m hO) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hG c).loose) (hshare := fun c => (dats m hO 0 c).share_full fun _ => rfl)
    (howed := fun _ _ => rfl) (V := V m) (hmain := hmain m Variants.none) (hA := A_eq m hO) (hpf := V_pre m) (hΦ := fun _ _ => rfl)

/-- The final memory: the argument arrays as they were, the result as the pipeline's write-backs leave it, every counter at zero. -/
theorem final (hO : Ok m) (hG : Good m hO) : θ_run defs (onTc (τ := τ) (main (F := F))) ⟨m, fun _ => 0, ρ⟩ (fun r => (∀ c : Dev nD,
      r.2.mem ((c.tc : Thread nD τ).loc main_v84) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).1 4,
      ((h.1 c).1 0).trans (((dats m hO 0 c).arrAt_in 0 rfl _).trans ((A_eq m hO c 0).trans (V_main_arg0 m c))),
      ((h.1 c).2 main_arg1 (by decide : main_arg1 ∈ Pipeline.restRefs sig spec0)).trans (V_main_arg1 m c),
      ((h.1 c).1 2).trans (((dats m hO 0 c).arrAt_in 2 rfl _).trans ((A_eq m hO c 2).trans (V_main_arg2 m c))),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c)⟩, h.2⟩) (run_main_quiescent m ρ hO hG)

/-- The argument arrays end unchanged and every counter at zero. -/
theorem frame (hO : Ok m) (hG : Good m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2, h.2⟩) (final m ρ hO hG)

end Cert.KernelIdeal.Gen

end
-- ==== Proof.KernelIdealOk.lean ====
/- The precondition gives what the frame asks: the blocks lie inside their arrays, and every item that begins a tile writes all of it. -/
module

public import proofs.«01_k».proof.Proof.KernelIdealTable
public import proofs.«01_k».proof.Proof.KernelIdealFrame
public import proofs.«01_k».proof.Proof.Sizes
public import Idealize.ShloMosaic.Lib.PairWhole

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Routing (ofNat32_sub slt_ofNat32)
open Items (E I tile lo hi grp Live First)

/-! ## The table's words at an item -/

theorem at_row (pf : pre0.Contents (Elt F)) (i : grid0.Coords) (r : Fin 5) (o : Fin 2 → ℕ) (ho : o = ![r.val, (i 0).val]) (h : ∀ a, o a + S1x1.size a ≤ S5x143.size a) :
    pf.at 0 (Rect.unit (s := S5x143) o S1x1.size h) numel1_S1x1 = (pf 0 : IVec S5x143 32) (ValueIdx.ix2 r (i 0 : Fin 143)) := by
  subst ho
  have hh : ∀ a : Fin 2, (![r.val, (i 0).val] : Fin 2 → ℕ) a + 1 ≤ S5x143.size a := fun a => by
    have := h a; revert this; fin_cases a <;> exact fun h => h
  have e : pf.atD 0 ![r.val, (i 0).val] = pf 0 (fun a => ⟨(![r.val, (i 0).val] : Fin 2 → ℕ) a, hh a⟩) := dif_pos hh
  rw [← atD_eq, e]
  refine congrArg (pf 0) (funext fun a => Fin.ext ?_)
  fin_cases a <;> rfl

theorem coord_word (i : grid0.Coords) : (Scalar.indexCast (BitVec.ofNat 32 (i 0).val) : Index).toNat = (i 0).val := by
  have h : (i 0).val < 143 := (i 0).isLt
  show (BitVec.ofNat 32 (i 0).val).toNat = _
  rw [BitVec.toNat_ofNat]; exact Nat.mod_eq_of_lt (by omega)

theorem coord_val (t : Fin grid0.N) : ((grid0.coords t) 0).val = t.val := by
  have h : ((grid0.coords t) 0).val = t.val / 1 % 143 := Pipeline.Grid.coords_val t 0 (by decide) rfl
  have h1 := t.isLt
  have hN : grid0.N = 143 := N_0
  rw [h, Nat.div_one]
  exact Nat.mod_eq_of_lt (by omega)

theorem words_of_rows {s : Shape} (r : Rect s) (h2 : 2 ≤ s.rank) {p q a b : ℕ} (hp : p = q) (ho : r.off (s.rowAx h2) = a) (hs : r.size (s.rowAx h2) = b)
    (ha : q ∣ a) (hb : q ∣ b) (hst : r.stride (s.rowAx h2) = 1) : r.WholeWords p :=
  .inl (.inr ⟨h2, hst, .inl ⟨by rw [hp, ho]; exact ha, by rw [hp, hs]; exact hb⟩⟩)

section
variable {s : ℕ → ℕ} {L : ℕ} {pf : pre0.Contents (Elt F)} (hr : Rows s (pf 0 : IVec S5x143 32) L)
include hr

theorem wTile_eq (i : grid0.Coords) : wTile pf i = BitVec.ofNat 32 (tile s (i 0).val) :=
  (at_row pf i 0 _ (by unfold k0_off1; simp only [coord_word]; rfl) _).trans (hr (i 0)).1
theorem wGrp_eq (i : grid0.Coords) : pf.at 0 (Rect.unit (s := S5x143) (k0_off2 i) S1x1.size (k0_off2_inb i)) numel1_S1x1 = BitVec.ofNat 32 (if Live s (i 0).val then grp s (i 0).val else L) :=
  (at_row pf i 1 _ (by unfold k0_off2; simp only [coord_word]; rfl) _).trans (hr (i 0)).2.1
theorem wLo_eq (i : grid0.Coords) : wLo pf i = BitVec.ofNat 32 (lo s (i 0).val) :=
  (at_row pf i 2 _ (by unfold k0_off3; simp only [coord_word]; rfl) _).trans (hr (i 0)).2.2.1
theorem wHi_eq (i : grid0.Coords) : wHi pf i = BitVec.ofNat 32 (hi s (i 0).val) :=
  (at_row pf i 3 _ (by unfold k0_off4; simp only [coord_word]; rfl) _).trans (hr (i 0)).2.2.2.1
theorem wFirst_eq (i : grid0.Coords) : wFirst pf i = BitVec.ofNat 32 (if First s (i 0).val then 1 else 0) :=
  (at_row pf i 4 _ (by unfold k0_off5; simp only [coord_word]; rfl) _).trans (hr (i 0)).2.2.2.2

theorem tile_word (hE : E s 16 = 65536) (i : grid0.Coords) : (wTile pf i).toNat = tile s (i 0).val := by
  rw [wTile_eq hr, BitVec.toNat_ofNat]
  exact Nat.mod_eq_of_lt (by have := Items.tile_lt hE (i 0).val; omega)

theorem ix_tile (i : grid0.Coords) : cc0_transform_4 k0_off1_inb numel1_S1x1 pf i = ![(wTile pf i).toNat, 0] := rfl

/-! ## The blocks lie inside their arrays -/

theorem ok_of_rows (hE : E s 16 = 65536) (hL : L < 16) : ok0 pf := by
  have ht : ∀ i : grid0.Coords, (wTile pf i).toNat < 128 := fun i => by rw [tile_word hr hE]; exact Items.tile_lt hE _
  have hg : ∀ i : grid0.Coords, (pf.at 0 (Rect.unit (s := S5x143) (k0_off2 i) S1x1.size (k0_off2_inb i)) numel1_S1x1).toNat < 16 := fun i => by
    rw [wGrp_eq hr, BitVec.toNat_ofNat]
    split
    · next h => have : grp s (i 0).val < 16 := h; omega
    · omega
  refine ⟨fun i => ⟨fun a => ?_, .inr ?_⟩, fun i => ⟨fun a => ?_, .inl rfl⟩, fun i => ⟨fun a => ?_, .inr ?_⟩, fun i => ⟨fun a => ?_, .inl rfl⟩, fun i => ⟨fun a => ?_, .inr ?_⟩⟩
  · have := ht i
    fin_cases a
    · show ((wTile pf i).toNat + 1) * 512 ≤ 65536; omega
    · show (0 + 1) * 4096 ≤ 4096; omega
  · exact words_of_rows (s := S65536x4096) _ (by decide) (q := 4) (a := (wTile pf i).toNat * 512) (b := 512) rfl rfl rfl (by omega) (by decide) rfl
  · have := ht i
    fin_cases a
    · show ((wTile pf i).toNat + 1) * 512 ≤ 65536; omega
    · show (0 + 1) * 1 ≤ 1; omega
  · have := hg i
    fin_cases a
    · show ((pf.at 0 (Rect.unit (s := S5x143) (k0_off2 i) S1x1.size (k0_off2_inb i)) numel1_S1x1).toNat + 1) * 1 ≤ 16; omega
    · show (0 + 1) * 4096 ≤ 4096; omega
    · show (0 + 1) * 3072 ≤ 3072; omega
  · have e : ∀ g : ℕ, ∀ h : ∀ a, ((![g, 0, 0] : Fin 3 → ℕ) a + 1) * S1x4096x3072.size a ≤ S16x4096x3072.size a, (Rect.block (s := S16x4096x3072) S1x4096x3072.size ![g, 0, 0] h).WholeWords (EltTy.packing .fp8e4m3) := fun g h =>
      .inl (.inr ⟨by decide, rfl, .inl ⟨⟨0, rfl⟩, ⟨1024, rfl⟩⟩⟩)
    exact e _ _
  · have := hg i
    fin_cases a
    · show ((pf.at 0 (Rect.unit (s := S5x143) (k0_off2 i) S1x1.size (k0_off2_inb i)) numel1_S1x1).toNat + 1) * 1 ≤ 16; omega
    · show (0 + 1) * 1 ≤ 1; omega
    · show (0 + 1) * 3072 ≤ 3072; omega
  · have := ht i
    fin_cases a
    · show ((wTile pf i).toNat + 1) * 512 ≤ 65536; omega
    · show (0 + 1) * 3072 ≤ 3072; omega
  · exact words_of_rows (s := S65536x3072) _ (by decide) (q := 2) (a := (wTile pf i).toNat * 512) (b := 512) rfl rfl rfl (by omega) (by decide) rfl

/-! ## The branches the items take -/

omit hr in
theorem cond_words {t l h : ℕ} (ht : t < 128) (h1 : t * 512 ≤ l) (h2 : l < h) (h3 : h ≤ (t + 1) * 512) :
    (k0_cond1 (BitVec.ofNat 32 t) (BitVec.ofNat 32 l) (BitVec.ofNat 32 h) = 1#1 ↔ h - l = 512)
    ∧ (k0_cond2 (BitVec.ofNat 32 t) (BitVec.ofNat 32 l) (BitVec.ofNat 32 h) = 1#1 ↔ h - l < 512) := by
  have e0 : Scalar.muli (BitVec.ofNat 32 t) 512#32 = BitVec.ofNat 32 (t * 512) := Items.mul_ofNat t 512
  have e1 : Scalar.subi (BitVec.ofNat 32 h) (BitVec.ofNat 32 (t * 512)) = BitVec.ofNat 32 (h - t * 512) := ofNat32_sub (by omega)
  have e2 : Scalar.subi (BitVec.ofNat 32 l) (BitVec.ofNat 32 (t * 512)) = BitVec.ofNat 32 (l - t * 512) := ofNat32_sub (by omega)
  have e3 : Scalar.subi (BitVec.ofNat 32 (h - t * 512)) (BitVec.ofNat 32 (l - t * 512)) = BitVec.ofNat 32 (h - l) :=
    (ofNat32_sub (by omega)).trans (by congr 1; omega)
  have e4 : Scalar.cmpi .eq (BitVec.ofNat 32 (h - l)) 512#32 = BitVec.ofBool (decide (h - l = 512)) := by
    show BitVec.ofBool (BitVec.ofNat 32 (h - l) == BitVec.ofNat 32 512) = _
    by_cases hc : h - l = 512
    · rw [hc]; decide
    · have : ¬ BitVec.ofNat 32 (h - l) = BitVec.ofNat 32 512 := fun hh => hc ((Items.ofNat_inj (by omega) (by decide)).mp hh)
      rw [beq_eq_false_iff_ne.mpr this, decide_eq_false hc]
  have e5 : Scalar.cmpi .sgt (BitVec.ofNat 32 (h - t * 512)) (BitVec.ofNat 32 (l - t * 512)) = BitVec.ofBool (decide (l - t * 512 < h - t * 512)) := Items.cmpi_sgt (by omega) (by omega)
  have e6 : Scalar.cmpi .slt (BitVec.ofNat 32 (h - l)) 512#32 = BitVec.ofBool (decide (h - l < 512)) := Items.cmpi_slt (by omega) (by decide)
  constructor
  · unfold k0_cond1
    simp only [e0, e1, e2, e3, e4]
    by_cases hc : h - l = 512
    · simp only [hc, decide_true]; decide
    · simp only [hc, decide_false]; decide
  · unfold k0_cond2
    simp only [e0, e1, e2, e3, e5, e6, decide_eq_true (show l - t * 512 < h - t * 512 by omega)]
    by_cases hc : h - l < 512
    · simp only [hc, decide_true]; decide
    · simp only [hc, decide_false]; decide

theorem live_branches (hE : E s 16 = 65536) (i : grid0.Coords) (hl : Live s (i 0).val) :
    (isWhole pf i ↔ hi s (i 0).val - lo s (i 0).val = 512) ∧ (isPart pf i ↔ hi s (i 0).val - lo s (i 0).val < 512) := by
  unfold isWhole isPart
  rw [wTile_eq hr, wLo_eq hr, wHi_eq hr]
  obtain ⟨-, -, h1, h2, h3⟩ := Items.lo_hi s hl
  exact cond_words (Items.tile_lt hE _) h2 h1 h3

theorem dead_branches (i : grid0.Coords) (hl : ¬ Live s (i 0).val) : ¬ isWhole pf i ∧ ¬ isPart pf i := by
  unfold isWhole isPart
  rw [wTile_eq hr, wLo_eq hr, wHi_eq hr]
  obtain ⟨h1, h2, h3⟩ := Items.dead_lo_hi s hl
  rw [h1, h2, h3]
  exact ⟨by decide, by decide⟩

/-! ## When the output tile is written back, and what it holds before -/

theorem flush_iff (hE : E s 16 = 65536) (hO : ok0 pf) (t : Fin (cfg0 (F := F) ⟨pf, hO⟩).N) :
    ((cfg0 (F := F) ⟨pf, hO⟩).win 4).flush t = true ↔ t.val = 142 ∨ tile s (t.val + 1) ≠ tile s t.val := by
  have hN : grid0.N = 143 := N_0
  have hix : ∀ u : Fin grid0.N, cc0_transform_4 k0_off1_inb numel1_S1x1 pf (grid0.coords u) = ![tile s u.val, 0] := fun u => by
    rw [ix_tile hr, tile_word hr hE, coord_val]
  have e : ((cfg0 (F := F) ⟨pf, hO⟩).win 4).flush t = Pipeline.Window.flushOf grid0 true (cc0_transform_4 k0_off1_inb numel1_S1x1 pf) t := rfl
  rw [e]
  unfold Pipeline.Window.flushOf
  simp only [Bool.true_and, Bool.or_eq_true, decide_eq_true_eq, hix]
  have ht : t.val < 143 := hN ▸ t.isLt
  constructor
  · rintro (h | ⟨h, hne⟩)
    · left; omega
    · right; intro hh; apply hne; rw [hh]
  · rintro (h | h)
    · left; omega
    · by_cases h142 : t.val + 1 = grid0.N
      · exact Or.inl h142
      · exact Or.inr ⟨by omega, fun hh => h (congrFun hh 0)⟩
end

section
variable {s : ℕ → ℕ} {L : ℕ} (hr : Rows s (tbl m 0 : IVec S5x143 32) L) (hE : E s 16 = 65536)
include hr hE

theorem fresh_first (hO : Ok m) : ∀ n (h : n < (cfgM m hO).N), (cfgM m hO).fresh 4 n = true → Live s n ∧ First s n
  | 0, _, _ => ⟨Items.live_zero hE, Or.inl rfl⟩
  | n + 1, h, hf => by
    have hn : n < (cfgM m hO).N := by omega
    rw [Pipeline.Cfg.fresh_succ _ _ n hn, Bool.or_eq_true, Bool.and_eq_true] at hf
    rcases hf with hf | ⟨hi, hf⟩
    · have hN : grid0.N = 143 := N_0
      have h143 : n + 1 < grid0.N := h
      rcases (flush_iff hr hE hO ⟨n, hn⟩).mp hf with h1 | h1
      · have h1 : n = 142 := h1
        omega
      · exact ⟨Items.live_of_tile_ne hE h1, Or.inr h1⟩
    · exfalso
      have hl := (fresh_first hO n hn hf).1
      have hd := (idleM m hO ⟨n, hn⟩).mp hi
      clear hi
      have hc := coord_val ⟨n, hn⟩
      have hl' : Live s ((grid0.coords ⟨n, hn⟩) 0).val := by rw [hc]; exact hl
      obtain ⟨b1, b2⟩ := live_branches hr hE (grid0.coords ⟨n, hn⟩) hl'
      obtain ⟨-, -, g1, g2, g3⟩ := Items.lo_hi s hl'
      by_cases h5 : hi s ((grid0.coords ⟨n, hn⟩) 0).val - lo s ((grid0.coords ⟨n, hn⟩) 0).val = 512
      · exact hd.1 (b1.mpr h5)
      · exact hd.2 (b2.mpr (by omega))

theorem good (hO : Ok m) : Good m hO := by
  intro t hf
  obtain ⟨hl, h1⟩ := fresh_first m hr hE hO t.val t.isLt hf
  have hc := coord_val t
  have hl' : Live s ((grid0.coords t) 0).val := by rw [hc]; exact hl
  obtain ⟨b1, b2⟩ := live_branches hr hE (grid0.coords t) hl'
  obtain ⟨-, -, g1, g2, g3⟩ := Items.lo_hi s hl'
  by_cases h5 : hi s ((grid0.coords t) 0).val - lo s ((grid0.coords t) 0).val = 512
  · exact Or.inl (b1.mpr h5)
  · refine Or.inr ⟨b2.mpr (by omega), ?_⟩
    rw [wFirst_eq hr, hc, if_pos h1]

end

/-- The sizes of the groups in the launch memory. -/
abbrev szs : ℕ → ℕ := Items.sizesOf (m ((0 : Dev nD).tc.loc main_arg4) : IVec S16 32)

theorem tbl_rows (hE : E (szs m) 16 = 65536) : ∃ L < 16, Rows (szs m) (tbl m 0 : IVec S5x143 32) L :=
  table_rows (fun b => m ((0 : Dev nD), b)) (szs m) (fun j => Items.sizesOf_word _ j) hE

theorem ok_of_sizes (hE : E (szs m) 16 = 65536) : Ok m := by
  obtain ⟨L, hL, hr⟩ := tbl_rows m hE
  exact ok_of_rows hr hE hL

/-- Under the precondition every run ends with the arguments as they were and every semaphore at zero. -/
theorem quiet (hE : E (szs m) 16 = 65536) : θ_run (defs (F := F)) (onTc (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  obtain ⟨L, hL, hr⟩ := tbl_rows m hE
  exact frame m ρ (ok_of_sizes m hE) (good m hr hE _)

end Cert.KernelIdeal.Gen

end
-- ==== Proof.KernelIdealValue.lean ====
/- What the kernel computes over the extended reals, one work item at a time: the scaled product of the item's rows with its group's weights. -/
module

public import proofs.«01_k».proof.Proof.KernelIdealOk
public import Idealize.ShloMosaic.Lib.MatmulPlain
public import Idealize.ShloMosaic.Lib.ValueIdx

@[expose] public section

set_option maxRecDepth 16384

noncomputable section

namespace Cert.KernelIdeal.Gen

open Idealize.ShloMosaic hiding ix0 ix1 ix2 ix3 truncf_apply mulf_apply
open Idealize.ShloMosaic.ValueIdx Items
open Idealize.ShloMosaic.WordCmp (select_at cmpi_at)

/-- The scaled products of a tile of rows with one expert's weights. -/
def tileVal (x0 : Vec Ideal S512x4096 .fp8e4m3) (x1 : Vec Ideal S512x1 .f32) (x2 : Vec Ideal S1x4096x3072 .fp8e4m3) (x3 : Vec Ideal S1x1x3072 .f32) (r : Fin 512) (n : Fin 3072) : EReal :=
  (∑ k : Fin 4096, (x0 (ix2 r k) : EReal) * x2 (ix3 0 k n)) * x1 (ix2 r 0) * x3 (ix3 0 0 n)

theorem pay5_at (x : Vec Ideal S512x4096 .fp8e4m3) (w : Vec Ideal S1x4096x512 .fp8e4m3) (xs : Vec Ideal S512x1 .f32) (ws : Vec Ideal S1x1x512 .f32) (r c : Fin 512) :
    k0_pay5 (F := Ideal) x w xs ws (ix2 r c) = ((∑ k : Fin 4096, (x (ix2 r k) : EReal) * w (ix3 0 k c)) * xs (ix2 r 0) * ws (ix3 0 0 c) : EReal) := by
  unfold k0_pay5
  have hd : dot_S512x4096_S4096x512_S512x512_1_0_0_1_n_n = DotDims.plain 512 4096 512 := rfl
  rw [hd]
  simp only [matmul, truncf_apply, mulf_apply]
  rw [Ideal.matmul_plain_apply]
  have h1 : broadcastTo S512x512 (shapeCast S512x1 xs shapeCasts_S512x1_S512x1) broadcasts_S512x1_S512x512 (ix2 r c) = xs (ix2 r 0) := by
    rw [shapeCast_self]
    exact broadcastTo_apply _ _ _ (ix2 r 0) fun a => by fin_cases a <;> rfl
  have h2 : broadcastTo S512x512 (shapeCast S1x512 ws shapeCasts_S1x1x512_S1x512) broadcasts_S1x512_S512x512 (ix2 r c) = ws (ix3 0 0 c) :=
    (broadcastTo_apply _ _ _ (ix2 0 c) fun a => by fin_cases a <;> rfl).trans
      ((shapeCast_dropUnit_apply ![1, 512] ws _ (ix2 0 c)).trans (congrArg ws (funext fun a => by fin_cases a <;> rfl)))
  have h3 : ∀ k : Fin 4096, shapeCast S4096x512 w shapeCasts_S1x4096x512_S4096x512 (ix2 k c) = w (ix3 0 k c) := fun k =>
    (shapeCast_dropUnit_apply ![4096, 512] w _ (ix2 k c)).trans (congrArg w (funext fun a => by fin_cases a <;> rfl))
  rw [h1, h2]
  simp only [h3]
  have h0 : (constant S512x512 .f32 0x00000000#32 : FVec Ideal S512x512 .f32) (ix2 r c) = (0 : EReal) := Ideal.ofBits_zero_f32
  rw [h0, zero_add]

theorem pay11_at {a b : ℕ} (ha : a < 2 ^ 31) (hb : b < 2 ^ 31) (first : BitVec 1) (x : Vec Ideal S512x4096 .fp8e4m3) (w : Vec Ideal S1x4096x512 .fp8e4m3) (xs : Vec Ideal S512x1 .f32) (ws : Vec Ideal S1x1x512 .f32) (old : Vec Ideal S512x512 .bf16) (r c : Fin 512) :
    k0_pay11 (F := Ideal) (BitVec.ofNat 32 a) (BitVec.ofNat 32 b) first x w xs ws old (ix2 r c)
      = if a ≤ r.val ∧ r.val < b then k0_pay5 (F := Ideal) x w xs ws (ix2 r c)
        else Scalar.select first (broadcast S512x512 (Scalar.ofBits .bf16 0x0000#16 : Ideal .bf16)) old (ix2 r c) := by
  have hm : broadcastTo S512x512 (shapeCast S512x1 (k0_pay10 (BitVec.ofNat 32 a) (BitVec.ofNat 32 b)) shapeCasts_S512x1_S512x1) broadcasts_S512x1_S512x512 (ix2 r c)
      = BitVec.ofBool (decide (a ≤ r.val ∧ r.val < b)) := by
    rw [shapeCast_self]
    refine (broadcastTo_apply _ _ _ (ix2 r 0) fun a => by fin_cases a <;> rfl).trans ?_
    have hi : iota .tc S512x1 32 [0] iota_S512x1_d0_w32 (ix2 r 0) = BitVec.ofNat 32 r.val := iota_single_apply _ _ _ _ _ _
    have hr := r.isLt
    show IntOp.andi (IntOp.cmpi .sge (iota .tc S512x1 32 [0] iota_S512x1_d0_w32 (ix2 r 0)) (BitVec.ofNat 32 a)) (IntOp.cmpi .slt (iota .tc S512x1 32 [0] iota_S512x1_d0_w32 (ix2 r 0)) (BitVec.ofNat 32 b)) = _
    rw [hi, Items.cmpi_sge (by omega) ha, Items.cmpi_slt (by omega) hb]
    by_cases h1 : a ≤ r.val <;> by_cases h2 : r.val < b <;> simp [h1, h2] <;> rfl
  show select (broadcastTo S512x512 (shapeCast S512x1 (k0_pay10 (BitVec.ofNat 32 a) (BitVec.ofNat 32 b)) shapeCasts_S512x1_S512x1) broadcasts_S512x1_S512x512) (k0_pay5 (F := Ideal) x w xs ws)
    (Scalar.select first (broadcast S512x512 (Scalar.ofBits .bf16 0x0000#16 : Ideal .bf16)) (shapeCast S512x512 old shapeCasts_S512x512_S512x512)) (ix2 r c) = _
  rw [select_at, hm, Items.select_ofBool, shapeCast_self]

/-- A column chunk of the tile at its place in the tile. -/
theorem chunk_at (x0 : Vec Ideal S512x4096 .fp8e4m3) (x1 : Vec Ideal S512x1 .f32) (x2 : Vec Ideal S1x4096x3072 .fp8e4m3) (x3 : Vec Ideal S1x1x3072 .f32)
    (o : ℕ) (h1 : ∀ a, (![0, 0, o] : Fin 3 → ℕ) a + S1x4096x512.size a ≤ S1x4096x3072.size a) (h2 : ∀ a, (![0, 0, o] : Fin 3 → ℕ) a + S1x1x512.size a ≤ S1x1x3072.size a) (h3 : ∀ a, (![0, o] : Fin 2 → ℕ) a + S512x512.size a ≤ S512x3072.size a) (z : S512x512.Idx) :
    k0_pay5 (F := Ideal) (View.ld x0 rX) (View.ld x2 (Rect.unit (s := S1x4096x3072) ![0, 0, o] S1x4096x512.size h1)) (View.ld x1 rR) (View.ld x3 (Rect.unit (s := S1x1x3072) ![0, 0, o] S1x1x512.size h2)) z
      = tileVal x0 x1 x2 x3 ((Rect.unit (s := S512x3072) ![0, o] S512x512.size h3).emb z 0) ((Rect.unit (s := S512x3072) ![0, o] S512x512.size h3).emb z 1) := by
  obtain ⟨r, c, rfl⟩ : ∃ r c, z = ix2 r c := ⟨z 0, z 1, ValueIdx.eq_ix2 z⟩
  rw [pay5_at]
  have hr : (Rect.unit (s := S512x3072) ![0, o] S512x512.size h3).emb (ix2 r c) 0 = r := Fin.ext (show 0 + 1 * r.val = r.val by omega)
  have ho : o + c.val < 3072 := by have := h3 1; have hc := c.isLt; simp at this; omega
  have hc : (Rect.unit (s := S512x3072) ![0, o] S512x512.size h3).emb (ix2 r c) 1 = (⟨o + c.val, ho⟩ : Fin 3072) := Fin.ext (show o + 1 * c.val = o + c.val by omega)
  rw [hr, hc]
  have e0 : View.ld x0 rX = x0 := View.ld_unit_zero (S := S512x4096) (funext fun a => by fin_cases a <;> rfl) _ _
  have e1 : View.ld x1 rR = x1 := View.ld_unit_zero (S := S512x1) (funext fun a => by fin_cases a <;> rfl) _ _
  have e2 : ∀ k : Fin 4096, View.ld x2 (Rect.unit (s := S1x4096x3072) ![0, 0, o] S1x4096x512.size h1) (ix3 0 k c) = x2 (ix3 0 k ⟨o + c.val, ho⟩) := fun k =>
    congrArg x2 (funext fun a => Fin.ext (by
      fin_cases a
      · rfl
      · show 0 + 1 * k.val = k.val; omega
      · show o + 1 * c.val = o + c.val; omega))
  have e3 : View.ld x3 (Rect.unit (s := S1x1x3072) ![0, 0, o] S1x1x512.size h2) (ix3 0 0 c) = x3 (ix3 0 0 ⟨o + c.val, ho⟩) :=
    congrArg x3 (funext fun a => Fin.ext (by
      fin_cases a
      · rfl
      · rfl
      · show o + 1 * c.val = o + c.val; omega))
  unfold tileVal
  rw [e0, e1, e3]
  simp only [e2]

theorem wholeOut_at (x0 : Vec Ideal S512x4096 .fp8e4m3) (x1 : Vec Ideal S512x1 .f32) (x2 : Vec Ideal S1x4096x3072 .fp8e4m3) (x3 : Vec Ideal S1x1x3072 .f32) (r : Fin 512) (n : Fin 3072) :
    wholeOut x0 x1 x2 x3 (ix2 r n) = tileVal x0 x1 x2 x3 r n := by
  unfold wholeOut sixChunks
  refine View.canon_apply_of_pieces (Val := Elt Ideal) (e := .bf16) (S := S512x3072) (fun y => (tileVal x0 x1 x2 x3 (y 0) (y 1) : EReal)) _ ?_ _ (cover6 _ _ _ _ _ _ _)
  intro p hp
  simp only [List.mem_cons, List.not_mem_nil, or_false] at hp
  rcases hp with rfl | rfl | rfl | rfl | rfl | rfl
  · exact chunk_at x0 x1 x2 x3 2560 inb_S1x4096x3072_S1x4096x512_0_0_2560 inb_S1x1x3072_S1x1x512_0_0_2560 inb_S512x3072_S512x512_0_2560
  · exact chunk_at x0 x1 x2 x3 2048 inb_S1x4096x3072_S1x4096x512_0_0_2048 inb_S1x1x3072_S1x1x512_0_0_2048 inb_S512x3072_S512x512_0_2048
  · exact chunk_at x0 x1 x2 x3 1536 inb_S1x4096x3072_S1x4096x512_0_0_1536 inb_S1x1x3072_S1x1x512_0_0_1536 inb_S512x3072_S512x512_0_1536
  · exact chunk_at x0 x1 x2 x3 1024 inb_S1x4096x3072_S1x4096x512_0_0_1024 inb_S1x1x3072_S1x1x512_0_0_1024 inb_S512x3072_S512x512_0_1024
  · exact chunk_at x0 x1 x2 x3 512 inb_S1x4096x3072_S1x4096x512_0_0_512 inb_S1x1x3072_S1x1x512_0_0_512 inb_S512x3072_S512x512_0_512
  · exact chunk_at x0 x1 x2 x3 0 inb_S1x4096x3072_S1x4096x512_0_0_0 inb_S1x1x3072_S1x1x512_0_0_0 inb_S512x3072_S512x512_0_0

theorem partOut_at {a b : ℕ} (ha : a < 2 ^ 31) (hb : b < 2 ^ 31) (first : BitVec 1) (x0 : Vec Ideal S512x4096 .fp8e4m3) (x1 : Vec Ideal S512x1 .f32) (x2 : Vec Ideal S1x4096x3072 .fp8e4m3) (x3 : Vec Ideal S1x1x3072 .f32) (x4 : Vec Ideal S512x3072 .bf16) (r : Fin 512) (n : Fin 3072) :
    partOut (BitVec.ofNat 32 a) (BitVec.ofNat 32 b) first x0 x1 x2 x3 x4 (ix2 r n)
      = if a ≤ r.val ∧ r.val < b then (tileVal x0 x1 x2 x3 r n : Elt Ideal .bf16) else Scalar.select first (broadcast S512x3072 (Scalar.ofBits .bf16 0x0000#16 : Ideal .bf16)) x4 (ix2 r n) := by
  unfold partOut sixChunks
  refine View.canon_apply_of_pieces (Val := Elt Ideal) (e := .bf16) (S := S512x3072) (fun y => if a ≤ (y 0).val ∧ (y 0).val < b then (tileVal x0 x1 x2 x3 (y 0) (y 1) : Elt Ideal .bf16) else Scalar.select first (broadcast S512x3072 (Scalar.ofBits .bf16 0x0000#16 : Ideal .bf16)) x4 y) _ ?_ _ (cover6 _ _ _ _ _ _ _)
  have key : ∀ (o : ℕ) (h1 : ∀ a, (![0, 0, o] : Fin 3 → ℕ) a + S1x4096x512.size a ≤ S1x4096x3072.size a) (h2 : ∀ a, (![0, 0, o] : Fin 3 → ℕ) a + S1x1x512.size a ≤ S1x1x3072.size a) (h3 : ∀ a, (![0, o] : Fin 2 → ℕ) a + S512x512.size a ≤ S512x3072.size a) (z : S512x512.Idx),
      k0_pay11 (F := Ideal) (BitVec.ofNat 32 a) (BitVec.ofNat 32 b) first (View.ld x0 rX) (View.ld x2 (Rect.unit (s := S1x4096x3072) ![0, 0, o] S1x4096x512.size h1)) (View.ld x1 rR) (View.ld x3 (Rect.unit (s := S1x1x3072) ![0, 0, o] S1x1x512.size h2)) (View.ld x4 (Rect.unit (s := S512x3072) ![0, o] S512x512.size h3)) z
        = (fun y : S512x3072.Idx => if a ≤ (y 0).val ∧ (y 0).val < b then (tileVal x0 x1 x2 x3 (y 0) (y 1) : Elt Ideal .bf16) else Scalar.select first (broadcast S512x3072 (Scalar.ofBits .bf16 0x0000#16 : Ideal .bf16)) x4 y)
          ((Rect.unit (s := S512x3072) ![0, o] S512x512.size h3).emb z) := by
    intro o h1 h2 h3 z
    have hc := chunk_at x0 x1 x2 x3 o h1 h2 h3 z
    obtain ⟨r, c, rfl⟩ : ∃ r c, z = ix2 r c := ⟨z 0, z 1, ValueIdx.eq_ix2 z⟩
    rw [pay11_at ha hb, hc]
    have hr : ((Rect.unit (s := S512x3072) ![0, o] S512x512.size h3).emb (ix2 r c) 0).val = r.val := show 0 + 1 * r.val = r.val by omega
    show _ = if a ≤ ((Rect.unit (s := S512x3072) ![0, o] S512x512.size h3).emb (ix2 r c) 0).val ∧ ((Rect.unit (s := S512x3072) ![0, o] S512x512.size h3).emb (ix2 r c) 0).val < b then _ else _
    rw [hr]
    congr 1
    unfold Scalar.select
    by_cases h : first = 1#1
    · rw [h]; rfl
    · rw [eq_zero_of_ne_one h]; rfl
  intro p hp
  simp only [List.mem_cons, List.not_mem_nil, or_false] at hp
  rcases hp with rfl | rfl | rfl | rfl | rfl | rfl
  · exact key 2560 inb_S1x4096x3072_S1x4096x512_0_0_2560 inb_S1x1x3072_S1x1x512_0_0_2560 inb_S512x3072_S512x512_0_2560
  · exact key 2048 inb_S1x4096x3072_S1x4096x512_0_0_2048 inb_S1x1x3072_S1x1x512_0_0_2048 inb_S512x3072_S512x512_0_2048
  · exact key 1536 inb_S1x4096x3072_S1x4096x512_0_0_1536 inb_S1x1x3072_S1x1x512_0_0_1536 inb_S512x3072_S512x512_0_1536
  · exact key 1024 inb_S1x4096x3072_S1x4096x512_0_0_1024 inb_S1x1x3072_S1x1x512_0_0_1024 inb_S512x3072_S512x512_0_1024
  · exact key 512 inb_S1x4096x3072_S1x4096x512_0_0_512 inb_S1x1x3072_S1x1x512_0_0_512 inb_S512x3072_S512x512_0_512
  · exact key 0 inb_S1x4096x3072_S1x4096x512_0_0_0 inb_S1x1x3072_S1x1x512_0_0_0 inb_S512x3072_S512x512_0_0

end Cert.KernelIdeal.Gen

end
-- ==== Proof.Target.lean ====
/- What a grouped product is, over the extended reals: row `r` of the result is row `r` of the codes times the weights of the row's group, scaled by the row's and the column's scales. -/
module

public import proofs.«01_k».proof.Proof.Items
public import Idealize.ShloMosaic.Lib.ValueIdx

@[expose] public section

noncomputable section

namespace Items

open Idealize.ShloMosaic

/-- The group of row `r`: the number of groups that end at or before it. -/
def rowGrp (s : ℕ → ℕ) (r : ℕ) : ℕ := Nat.count (fun j => E s (j + 1) ≤ r) 16

theorem rowGrp_eq {s : ℕ → ℕ} {r g : ℕ} (hg : g < 16) (h1 : E s g ≤ r) (h2 : r < E s (g + 1)) : rowGrp s r = g := by
  unfold rowGrp
  rw [count_prefix (fun j => E s (j + 1) ≤ r) g 16 fun j _ => ⟨fun h => ?_, fun h => ?_⟩, Nat.min_eq_right (by omega)]
  · by_contra hc
    have := E_mono s (show g + 1 ≤ j + 1 by omega)
    omega
  · exact (E_mono s (show j + 1 ≤ g by omega)).trans h1

theorem rowGrp_lt {s : ℕ → ℕ} (hE : E s 16 = 65536) {r : ℕ} (hr : r < 65536) : rowGrp s r < 16 := by
  obtain ⟨i, hl, -, -, -, -, h1, h2⟩ := exists_item hE hr
  rw [rowGrp_eq hl h1 h2]; exact hl

/-- Row `r`, column `n` of the codes' product with group `g`'s weights, scaled. -/
def scaled (x : Vec Ideal ⟨2, ![65536, 4096]⟩ .fp8e4m3) (xs : Vec Ideal ⟨1, ![65536]⟩ .f32) (w : Vec Ideal ⟨3, ![16, 4096, 3072]⟩ .fp8e4m3) (ws : Vec Ideal ⟨2, ![16, 3072]⟩ .f32)
    (r : Fin 65536) (n : Fin 3072) (g : Fin 16) : EReal :=
  (∑ k : Fin 4096, (x (ValueIdx.ix2 r k) : EReal) * w (ValueIdx.ix3 g k n)) * xs (ValueIdx.ix1 r) * ws (ValueIdx.ix2 g n)

/-- The whole result. -/
def target (s : ℕ → ℕ) (hE : E s 16 = 65536) (x : Vec Ideal ⟨2, ![65536, 4096]⟩ .fp8e4m3) (xs : Vec Ideal ⟨1, ![65536]⟩ .f32) (w : Vec Ideal ⟨3, ![16, 4096, 3072]⟩ .fp8e4m3) (ws : Vec Ideal ⟨2, ![16, 3072]⟩ .f32) :
    Vec Ideal ⟨2, ![65536, 3072]⟩ .bf16 :=
  fun y => (scaled x xs w ws (y 0) (y 1) ⟨rowGrp s (y 0).val, rowGrp_lt hE (y 0).isLt⟩ : EReal)

end Items

end
-- ==== Proof.KernelIdealResult.lean ====
/- The kernel's whole result over the extended reals: every row of a tile is right once its work item has run, and a tile is written back when all of its items have. -/
module

public import proofs.«01_k».proof.Proof.KernelIdealValue
public import proofs.«01_k».proof.Proof.Target
public import Idealize.ShloMosaic.Lib.Pointwise.Reshape

@[expose] public section

set_option maxRecDepth 16384

noncomputable section

namespace Cert.KernelIdeal.Gen

open Idealize.ShloMosaic hiding ix0 ix1 ix2 ix3 truncf_apply mulf_apply
open Idealize.ShloMosaic.TcCoe Idealize.ShloMosaic.ValueIdx
open Idealize.SL.Sem
open Items (E I tile lo hi grp Live First)

variable (m : (ℓ : Loc nD τ sig) → Buf (Elt Ideal) ℓ) (ρ : Dev nD → PrngReg) (c : Dev nD)

/-- The argument arrays. -/
abbrev argX : Vec Ideal ⟨2, ![65536, 4096]⟩ .fp8e4m3 := m ((c.tc : Thread nD τ).loc main_arg0)
abbrev argXs : Vec Ideal ⟨1, ![65536]⟩ .f32 := m ((c.tc : Thread nD τ).loc main_arg1)
abbrev argW : Vec Ideal ⟨3, ![16, 4096, 3072]⟩ .fp8e4m3 := m ((c.tc : Thread nD τ).loc main_arg2)
abbrev argWs : Vec Ideal ⟨2, ![16, 3072]⟩ .f32 := m ((c.tc : Thread nD τ).loc main_arg3)

theorem tile_ix (z : S512x3072.Idx) : ∃ (r : Fin 512) (n : Fin 3072), z = ix2 r n := ⟨z 0, z 1, ValueIdx.eq_ix2 z⟩
theorem array_ix (z : S65536x3072.Idx) : ∃ (r : Fin 65536) (n : Fin 3072), z = ix2 r n := ⟨z 0, z 1, ValueIdx.eq_ix2 z⟩

/-! ## The blocks of the arrays -/

section
variable (pf : pre0.Contents (Elt Ideal)) (hO : ok0 pf) (t : Fin grid0.N) {q : ℕ}

theorem blk0_at (hq : (wTile pf (grid0.coords t)).toNat = q) (A : Vec Ideal S65536x4096 .fp8e4m3) (r : Fin 512) (k : Fin 4096) (h : q * 512 + r.val < 65536) :
    (((cfg0 (F := Ideal) ⟨pf, hO⟩).win 0).blk t).view.read (Elt Ideal) A (ix2 r k) = A (ix2 ⟨q * 512 + r.val, h⟩ k) := by
  subst hq
  refine congrArg A (funext fun a => Fin.ext ?_)
  fin_cases a
  · show (wTile pf (grid0.coords t)).toNat * 512 + 1 * r.val = (wTile pf (grid0.coords t)).toNat * 512 + r.val
    rw [Nat.one_mul]
  · show 0 * 4096 + 1 * k.val = k.val
    omega

theorem blk1_at (hq : (wTile pf (grid0.coords t)).toNat = q) (A : Vec Ideal S65536x1 .f32) (r : Fin 512) (h : q * 512 + r.val < 65536) :
    (((cfg0 (F := Ideal) ⟨pf, hO⟩).win 1).blk t).view.read (Elt Ideal) A (ix2 r 0) = A (ix2 ⟨q * 512 + r.val, h⟩ 0) := by
  subst hq
  refine congrArg A (funext fun a => Fin.ext ?_)
  fin_cases a
  · show (wTile pf (grid0.coords t)).toNat * 512 + 1 * r.val = (wTile pf (grid0.coords t)).toNat * 512 + r.val
    rw [Nat.one_mul]
  · rfl

theorem blk2_at (hq : (pf.at 0 (Rect.unit (s := S5x143) (k0_off2 (grid0.coords t)) S1x1.size (k0_off2_inb _)) numel1_S1x1).toNat = q) (A : Vec Ideal S16x4096x3072 .fp8e4m3) (k : Fin 4096) (n : Fin 3072) (h : q < 16) :
    (((cfg0 (F := Ideal) ⟨pf, hO⟩).win 2).blk t).view.read (Elt Ideal) A (ix3 0 k n) = A (ix3 ⟨q, h⟩ k n) := by
  subst hq
  refine congrArg A (funext fun a => Fin.ext ?_)
  fin_cases a
  · exact Nat.mul_one _
  · show 0 * 4096 + 1 * k.val = k.val
    omega
  · show 0 * 3072 + 1 * n.val = n.val
    omega

theorem blk3_at (hq : (pf.at 0 (Rect.unit (s := S5x143) (k0_off2 (grid0.coords t)) S1x1.size (k0_off2_inb _)) numel1_S1x1).toNat = q) (A : Vec Ideal S16x1x3072 .f32) (n : Fin 3072) (h : q < 16) :
    (((cfg0 (F := Ideal) ⟨pf, hO⟩).win 3).blk t).view.read (Elt Ideal) A (ix3 0 0 n) = A (ix3 ⟨q, h⟩ 0 n) := by
  subst hq
  refine congrArg A (funext fun a => Fin.ext ?_)
  fin_cases a
  · exact Nat.mul_one _
  · rfl
  · show 0 * 3072 + 1 * n.val = n.val
    omega

theorem blk4_at (hq : (wTile pf (grid0.coords t)).toNat = q) (A : Vec Ideal S65536x3072 .bf16) (r : Fin 512) (n : Fin 3072) (h : q * 512 + r.val < 65536) :
    (((cfg0 (F := Ideal) ⟨pf, hO⟩).win 4).blk t).view.read (Elt Ideal) A (ix2 r n) = A (ix2 ⟨q * 512 + r.val, h⟩ n) := by
  subst hq
  refine congrArg A (funext fun a => Fin.ext ?_)
  fin_cases a
  · show (wTile pf (grid0.coords t)).toNat * 512 + 1 * r.val = (wTile pf (grid0.coords t)).toNat * 512 + r.val
    rw [Nat.one_mul]
  · show 0 * 3072 + 1 * n.val = n.val
    omega

theorem blk4_mem (hq : (wTile pf (grid0.coords t)).toNat = q) (r : Fin 512) (n : Fin 3072) (h : q * 512 + r.val < 65536) :
    (ix2 ⟨q * 512 + r.val, h⟩ n : S65536x3072.Idx) ∈ (((cfg0 (F := Ideal) ⟨pf, hO⟩).win 4).blk t).view.set := by
  have e : (((cfg0 (F := Ideal) ⟨pf, hO⟩).win 4).blk t).view.emb (ix2 r n) = (ix2 ⟨q * 512 + r.val, h⟩ n : S65536x3072.Idx) := by
    subst hq
    refine funext fun a => Fin.ext ?_
    fin_cases a
    · show (wTile pf (grid0.coords t)).toNat * 512 + 1 * r.val = (wTile pf (grid0.coords t)).toNat * 512 + r.val
      rw [Nat.one_mul]
    · show 0 * 3072 + 1 * n.val = n.val
      omega
  rw [← e]
  exact View.emb_mem_set _ _

end

section
variable {s : ℕ → ℕ} {L : ℕ} (hr : Rows s (tbl m 0 : IVec S5x143 32) L) (hE : E s 16 = 65536) (hL : L < 16) (hO : Ok m)
include hr hE

theorem tile_idx (t : Fin grid0.N) : (wTile (tbl m) (grid0.coords t)).toNat = tile s t.val := by rw [tile_word hr hE, coord_val]

omit hE in
theorem grp_idx (t : Fin grid0.N) (hl : Live s t.val) : (Pipeline.Prefetch.Contents.at (tbl m) 0 (Rect.unit (s := S5x143) (k0_off2 (grid0.coords t)) S1x1.size (k0_off2_inb _)) numel1_S1x1).toNat = grp s t.val := by
  rw [wGrp_eq hr, coord_val, if_pos hl, BitVec.toNat_ofNat]
  exact Nat.mod_eq_of_lt (by have : grp s t.val < 16 := hl; omega)

theorem tile_row (t : Fin grid0.N) (r : Fin 512) : tile s t.val * 512 + r.val < 65536 := by
  have := Items.tile_lt hE t.val; have := r.isLt; omega

theorem iblk0_at (t : Fin (cfgM m hO).N) (r : Fin 512) (k : Fin 4096) :
    iblk m hO c 0 t (ix2 r k) = argX m c (ix2 ⟨tile s t.val * 512 + r.val, tile_row m hr hE t r⟩ k) :=
  (blk0_at (tbl m) hO t (tile_idx m hr hE t) (V m c main_arg0) r k (tile_row m hr hE t r)).trans (congrFun (V_main_arg0 m c) _)

theorem iblk1_at (t : Fin (cfgM m hO).N) (r : Fin 512) :
    iblk m hO c 1 t (ix2 r 0) = argXs m c (ix1 ⟨tile s t.val * 512 + r.val, tile_row m hr hE t r⟩) :=
  (blk1_at (tbl m) hO t (tile_idx m hr hE t) (V m c main_v82) r (tile_row m hr hE t r)).trans
    ((congrFun (lines_v82 _) _).trans (shapeCast_apply _ _ _ _ (((rowMajor_val1 (d := ![65536]) (ix1 _)).trans (by rw [Nat.mul_one]; rfl)).trans (rowMajor_val2 (d := ![65536, 1]) (ix2 _ 0) 1 rfl).symm)))

theorem iblk2_at (t : Fin (cfgM m hO).N) (hl : Live s t.val) (k : Fin 4096) (n : Fin 3072) :
    iblk m hO c 2 t (ix3 0 k n) = argW m c (ix3 ⟨grp s t.val, hl⟩ k n) :=
  (blk2_at (tbl m) hO t (grp_idx m hr t hl) (V m c main_arg2) k n hl).trans (congrFun (V_main_arg2 m c) _)

theorem iblk3_at (t : Fin (cfgM m hO).N) (hl : Live s t.val) (n : Fin 3072) :
    iblk m hO c 3 t (ix3 0 0 n) = argWs m c (ix2 ⟨grp s t.val, hl⟩ n) :=
  (blk3_at (tbl m) hO t (grp_idx m hr t hl) (V m c main_v83) n hl).trans
    ((congrFun (lines_v83 _) _).trans (shapeCast_apply _ _ _ _ (((rowMajor_val2 (d := ![16, 3072]) (ix2 _ n) 3072 rfl).trans (show _ = _ + 0 * 3072 + _ by rw [Nat.zero_mul, Nat.add_zero])).trans (rowMajor_val3 (d := ![16, 1, 3072]) (ix3 _ 0 n) 3072 3072 rfl rfl).symm)))

theorem tileVal_eq (t : Fin (cfgM m hO).N) (hl : Live s t.val) (r : Fin 512) (n : Fin 3072) (h1 : lo s t.val ≤ tile s t.val * 512 + r.val) (h2 : tile s t.val * 512 + r.val < hi s t.val) :
    tileVal (iblk m hO c 0 t) (iblk m hO c 1 t) (iblk m hO c 2 t) (iblk m hO c 3 t) r n
      = Items.target s hE (argX m c) (argXs m c) (argW m c) (argWs m c) (ix2 ⟨tile s t.val * 512 + r.val, tile_row m hr hE t r⟩ n) := by
  obtain ⟨e1, e2, -⟩ := Items.lo_hi s hl
  have hg : Items.rowGrp s (tile s t.val * 512 + r.val) = grp s t.val := Items.rowGrp_eq hl (by omega) (by omega)
  have hf : (⟨Items.rowGrp s (tile s t.val * 512 + r.val), Items.rowGrp_lt hE (tile_row m hr hE t r)⟩ : Fin 16) = ⟨grp s t.val, hl⟩ := Fin.ext hg
  show _ = Items.scaled (argX m c) (argXs m c) (argW m c) (argWs m c) ⟨tile s t.val * 512 + r.val, tile_row m hr hE t r⟩ n ⟨Items.rowGrp s (tile s t.val * 512 + r.val), _⟩
  rw [hf]
  unfold tileVal Items.scaled
  simp only [iblk0_at m c hr hE hO, iblk1_at m c hr hE hO, iblk2_at m c hr hE hO t hl, iblk3_at m c hr hE hO t hl]

/-- After item `t`, the rows of its tile whose item has run are right. -/
def Right (t : Fin (cfgM m hO).N) : Prop := ∀ (i : ℕ), Live s i → i ≤ t.val → tile s i = tile s t.val → ∀ (r : Fin 512) (n : Fin 3072),
    lo s i ≤ tile s t.val * 512 + r.val → tile s t.val * 512 + r.val < hi s i →
    outAt m hO c t.val t.isLt (ix2 r n) = Items.target s hE (argX m c) (argXs m c) (argW m c) (argWs m c) (ix2 ⟨tile s t.val * 512 + r.val, tile_row m hr hE t r⟩ n)

theorem right_step (t : Fin (cfgM m hO).N) (ih : ∀ h : t.val ≠ 0, Right m c hr hE hO ⟨t.val - 1, by have := t.isLt; omega⟩) : Right m c hr hE hO t := by
  intro i hi hit htile r n h1 h2
  rw [outAt_eq]; unfold outStep
  have hc : ((grid0.coords t) 0).val = t.val := coord_val t
  have hb : Live s t.val → (isWhole (tbl m) (grid0.coords t) ↔ Items.hi s t.val - lo s t.val = 512) ∧ (isPart (tbl m) (grid0.coords t) ↔ Items.hi s t.val - lo s t.val < 512) := fun h => by
    have := live_branches hr hE (grid0.coords t) (by rw [hc]; exact h)
    rw [hc] at this; exact this
  have hw : Live s t.val → partAt (tbl m) (grid0.coords t) (iblk m hO c 0 t) (iblk m hO c 1 t) (iblk m hO c 2 t) (iblk m hO c 3 t) (prevAt m hO c t)
      = partOut (BitVec.ofNat 32 (lo s t.val - tile s t.val * 512)) (BitVec.ofNat 32 (Items.hi s t.val - tile s t.val * 512)) (Scalar.cmpi .eq (BitVec.ofNat 32 (if First s t.val then 1 else 0)) 1#32)
        (iblk m hO c 0 t) (iblk m hO c 1 t) (iblk m hO c 2 t) (iblk m hO c 3 t) (prevAt m hO c t) := fun h => by
    obtain ⟨-, -, g1, g2, g3⟩ := Items.lo_hi s h
    have ht := Items.tile_lt hE t.val
    have e0 : Scalar.muli (BitVec.ofNat 32 (tile s t.val)) 512#32 = BitVec.ofNat 32 (tile s t.val * 512) := Items.mul_ofNat _ 512
    have e1 : Scalar.subi (BitVec.ofNat 32 (Items.hi s t.val)) (BitVec.ofNat 32 (tile s t.val * 512)) = BitVec.ofNat 32 (Items.hi s t.val - tile s t.val * 512) := Routing.ofNat32_sub (by omega)
    have e2 : Scalar.subi (BitVec.ofNat 32 (lo s t.val)) (BitVec.ofNat 32 (tile s t.val * 512)) = BitVec.ofNat 32 (lo s t.val - tile s t.val * 512) := Routing.ofNat32_sub (by omega)
    unfold partAt
    rw [wTile_eq hr, wLo_eq hr, wHi_eq hr, wFirst_eq hr, hc, e0, e1, e2]
  have hrr := r.isLt
  by_cases hti : i = t.val
  · rw [hti] at hi h1 h2
    obtain ⟨-, -, g1, g2, g3⟩ := Items.lo_hi s hi
    have ht := Items.tile_lt hE t.val
    by_cases hW : isWhole (tbl m) (grid0.coords t)
    · rw [if_pos hW]; exact (wholeOut_at _ _ _ _ r n).trans <| tileVal_eq m c hr hE hO t hi r n h1 h2
    · have hP : isPart (tbl m) (grid0.coords t) := (hb hi).2.mpr (by have : ¬ _ := fun h => hW ((hb hi).1.mpr h); omega)
      rw [if_neg hW, if_pos hP, hw hi]
      refine (partOut_at (a := lo s t.val - tile s t.val * 512) (b := Items.hi s t.val - tile s t.val * 512) (by omega) (by omega) _ _ _ _ _ _ r n).trans ((if_pos (by omega)).trans ?_)
      exact tileVal_eq m c hr hE hO t hi r n h1 h2
  · have hlt : i < t.val := by omega
    obtain ⟨hb1, hb2⟩ := Items.tile_between hE hlt htile
    have h0 : t.val ≠ 0 := by omega
    have hprev : prevAt m hO c t (ix2 r n) = Items.target s hE (argX m c) (argXs m c) (argW m c) (argWs m c) (ix2 ⟨tile s t.val * 512 + r.val, tile_row m hr hE t r⟩ n) := by
      unfold prevAt
      rw [if_neg h0]
      have hf : (⟨tile s (t.val - 1) * 512 + r.val, by rw [hb1]; exact tile_row m hr hE t r⟩ : Fin 65536) = ⟨tile s t.val * 512 + r.val, tile_row m hr hE t r⟩ := Fin.ext (by show tile s (t.val - 1) * 512 + r.val = tile s t.val * 512 + r.val; rw [hb1])
      have := ih h0 i hi (by show i ≤ t.val - 1; omega) (by show tile s i = tile s (t.val - 1); rw [hb1]; exact htile) r n (by show _ ≤ tile s (t.val - 1) * 512 + _; rw [hb1]; exact h1) (by show tile s (t.val - 1) * 512 + _ < _; rw [hb1]; exact h2)
      refine this.trans (congrArg (fun q : Fin 65536 => Items.target s hE (argX m c) (argXs m c) (argW m c) (argWs m c) (ix2 q n)) hf)
    by_cases hl : Live s t.val
    · obtain ⟨-, -, g1, g2, g3⟩ := Items.lo_hi s hl
      have ht := Items.tile_lt hE t.val
      have hout : ¬ (lo s t.val ≤ tile s t.val * 512 + r.val ∧ tile s t.val * 512 + r.val < Items.hi s t.val) := fun h => hti (Items.item_unique (s := s) hi hl h1 h2 h.1 h.2)
      have hW : ¬ isWhole (tbl m) (grid0.coords t) := fun h => hout (by have := (hb hl).1.mp h; omega)
      have hP : isPart (tbl m) (grid0.coords t) := (hb hl).2.mpr (by have : ¬ _ := fun h => hW ((hb hl).1.mpr h); omega)
      rw [if_neg hW, if_pos hP, hw hl]
      refine (partOut_at (a := lo s t.val - tile s t.val * 512) (b := Items.hi s t.val - tile s t.val * 512) (by omega) (by omega) _ _ _ _ _ _ r n).trans ((if_neg (by omega)).trans ?_)
      rw [if_neg hb2, show Scalar.cmpi .eq (BitVec.ofNat 32 0) 1#32 = 0#1 from by decide]
      exact hprev
    · have hd := dead_branches hr (grid0.coords t) (by rw [hc]; exact hl)
      rw [if_neg hd.1, if_neg hd.2]
      exact hprev

theorem right (u : ℕ) : ∀ (t : Fin (cfgM m hO).N), t.val = u → Right m c hr hE hO t := by
  induction u with
  | zero => exact fun t ht => right_step m c hr hE hO t fun h => absurd ht h
  | succ u ih => exact fun t ht => right_step m c hr hE hO t fun h => ih _ (by show t.val - 1 = u; omega)

/-- The whole result: `target` of the argument arrays. -/
theorem result : (dats m hO 0 c).arrAt 4 (cfgM m hO).N = Items.target s hE (argX m c) (argXs m c) (argW m c) (argWs m c) := by
  refine Pipeline.Dat.arrAt_eq_of_cover (dats m hO 0 c) 4 (Items.target s hE (argX m c) (argXs m c) (argW m c) (argWs m c)) (fun t hf => ?_) (fun y => ?_)
  · have hN : grid0.N = 143 := N_0
    have hf' := (flush_iff hr hE hO t).mp hf
    refine funext fun z => ?_
    rw [Pipeline.Dat.flushed_apply, after0_4]
    obtain ⟨r, n, rfl⟩ := tile_ix z
    obtain ⟨i, hl, hi143, hti, h1, h2, -⟩ := Items.exists_item hE (tile_row m hr hE t r)
    have hti' : tile s i = tile s t.val := by rw [hti]; have := r.isLt; omega
    refine Eq.trans ?_ ((right m c hr hE hO t.val t rfl i hl (Items.flush_done hE hf' hi143 hti') hti' r n h1 h2).trans (blk4_at (tbl m) hO t (tile_idx m hr hE t) _ r n (tile_row m hr hE t r)).symm)
    refine congrArg (outAt m hO c t.val t.isLt) (funext fun a => Fin.ext ?_)
    fin_cases a <;> rfl
  · have hN : grid0.N = 143 := N_0
    obtain ⟨R, n, rfl⟩ := array_ix y
    obtain ⟨u, hu, ht, hfl⟩ := Items.exists_flush hE R.isLt
    have hu' : u < grid0.N := by omega
    refine ⟨⟨u, hu'⟩, (flush_iff hr hE hO ⟨u, hu'⟩).mpr hfl, ?_⟩
    have hd := Nat.div_add_mod R.val 512
    have hR : R = ⟨tile s u * 512 + R.val % 512, by rw [ht]; have := R.isLt; omega⟩ := Fin.ext (by show R.val = tile s u * 512 + R.val % 512; rw [ht]; omega)
    have := blk4_mem (tbl m) hO ⟨u, hu'⟩ (tile_idx m hr hE ⟨u, hu'⟩) ⟨R.val % 512, Nat.mod_lt _ (by decide)⟩ n (tile_row m hr hE ⟨u, hu'⟩ _)
    rw [hR]
    exact this

end

/-- Under the precondition every run ends with the result at `target` of the arguments, and the arguments as they were. -/
theorem value (hE : E (szs m) 16 = 65536) : θ_run (defs (F := Ideal)) (onTc (main (F := Ideal))) ⟨m, fun _ => 0, ρ⟩
    (fun r => ∀ c : Dev nD, r.2.mem ((c.tc : Thread nD τ).loc main_v84) = Items.target (szs m) hE (argX m c) (argXs m c) (argW m c) (argWs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  obtain ⟨L, hL, hr⟩ := tbl_rows m hE
  exact (θ_run (defs (F := Ideal)) _ _).mono (fun r h c => ⟨(h.1 c).1.trans (result m c hr hE _), (h.1 c).2⟩) (final m ρ (ok_of_sizes m hE) (good m hr hE _))

end Cert.KernelIdeal.Gen

end
-- ==== Proof.ReferenceIdealValue.lean ====
/- What the reference's step computes over the extended reals: each row's product with the weights of the expert its number names. -/
module

public import proofs.«01_k».proof.Proof.Gen.ReferenceIdeal.Frame
public import proofs.«01_k».proof.Proof.Target
public import proofs.«01_k».proof.Proof.ItemWords
public import Idealize.ShloMosaic.Lib.Pipeline.ValueKit
public import Idealize.ShloMosaic.Lib.Pipeline.Value
public import Idealize.ShloMosaic.Lib.WordCmp
public import Idealize.ShloMosaic.Lib.MatmulPlain
public import Idealize.ShloMosaic.Lib.ValueIdx

@[expose] public section

set_option maxRecDepth 16384

noncomputable section

namespace Cert.ReferenceIdeal.Gen

open Idealize.ShloMosaic hiding ix0 ix1 ix2 ix3 truncf_apply mulf_apply
open Idealize.ShloMosaic.ValueIdx Items
open Idealize.ShloMosaic.WordCmp (select_at cmpi_at)

theorem select_cmpi_eq {α : Type} (a b : BitVec 32) (x y : α) : Scalar.select (IntOp.cmpi .eq a b) x y = if a = b then x else y := by
  have h : IntOp.cmpi .eq a b = BitVec.ofBool (decide (a = b)) := by
    show BitVec.ofBool (a == b) = _
    by_cases hc : a = b
    · simp [hc]
    · rw [beq_eq_false_iff_ne.mpr hc, decide_eq_false hc]
  rw [h, Items.select_ofBool]

/-- A row's mask is the comparison of the row's number with the expert's. -/
theorem mask_at {α : Type} (e : IVec S65536x1 32) (j : BitVec 32) (a b : S65536x3072.Idx → α) (r : Fin 65536) (n : Fin 3072) :
    select (broadcastTo S65536x3072 (shapeCast S65536x1 (cmpi .eq e (broadcast S65536x1 j)) shapeCasts_S65536x1_S65536x1) broadcasts_S65536x1_S65536x3072) a b (ix2 r n)
      = if e (ix2 r 0) = j then a (ix2 r n) else b (ix2 r n) := by
  rw [select_at, shapeCast_self]
  have h : broadcastTo S65536x3072 (cmpi .eq e (broadcast S65536x1 j)) broadcasts_S65536x1_S65536x3072 (ix2 r n) = IntOp.cmpi .eq (e (ix2 r 0)) j :=
    broadcastTo_apply _ _ _ (ix2 r 0) fun a => by fin_cases a <;> rfl
  rw [h, select_cmpi_eq]

theorem expert_lt {o : ℕ} (h : ∀ a, (![o, 0, 0] : Fin 3 → ℕ) a + S1x4096x3072.size a ≤ S16x4096x3072.size a) : o < 16 := by
  have h0 : o + 1 ≤ 16 := h 0
  omega

theorem scale_lt {o : ℕ} (h : ∀ a, (![o, 0] : Fin 2 → ℕ) a + S1x3072.size a ≤ S16x3072.size a) : o < 16 := by
  have h0 : o + 1 ≤ 16 := h 0
  omega

/-- The product of the rows with one expert's weights, at a place. -/
theorem dot_at (x : FVec Ideal S65536x4096 .fp8e4m3) (w : FVec Ideal S1x4096x3072 .fp8e4m3) (r : Fin 65536) (n : Fin 3072) :
    matmul dot_S65536x4096_S4096x3072_S65536x3072_1_0_0_1_n_n none x (shapeCast S4096x3072 w shapeCasts_S1x4096x3072_S4096x3072 : FVec Ideal S4096x3072 .fp8e4m3)
      (constant S65536x3072 .f32 0x00000000#32 : FVec Ideal S65536x3072 .f32) (ix2 r n)
      = (∑ k : Fin 4096, (x (ix2 r k) : EReal) * w (ix3 0 k n) : EReal) := by
  have hd : dot_S65536x4096_S4096x3072_S65536x3072_1_0_0_1_n_n = DotDims.plain 65536 4096 3072 := rfl
  rw [hd]
  simp only [matmul]
  rw [Ideal.matmul_plain_apply]
  have h3 : ∀ k : Fin 4096, shapeCast S4096x3072 w shapeCasts_S1x4096x3072_S4096x3072 (ix2 k n) = w (ix3 0 k n) := fun k =>
    (shapeCast_dropUnit_apply ![4096, 3072] w _ (ix2 k n)).trans (congrArg w (funext fun a => by fin_cases a <;> rfl))
  simp only [h3]
  have h0 : (constant S65536x3072 .f32 0x00000000#32 : FVec Ideal S65536x3072 .f32) (ix2 r n) = (0 : EReal) := Ideal.ofBits_zero_f32
  rw [h0, zero_add]

theorem expert_ld (w : Vec Ideal S16x4096x3072 .fp8e4m3) (o : ℕ) (h : ∀ a, (![o, 0, 0] : Fin 3 → ℕ) a + S1x4096x3072.size a ≤ S16x4096x3072.size a) (k : Fin 4096) (n : Fin 3072) :
    (View.ld w (Rect.unit (s := S16x4096x3072) ![o, 0, 0] S1x4096x3072.size h) : FVec Ideal S1x4096x3072 .fp8e4m3) (ix3 0 k n) = w (ix3 ⟨o, expert_lt h⟩ k n) :=
  congrArg w (funext fun a => by
    fin_cases a
    · exact Fin.ext (show o + 1 * 0 = o by omega)
    · exact Fin.ext (show 0 + 1 * k.val = k.val by omega)
    · exact Fin.ext (show 0 + 1 * n.val = n.val by omega))

theorem prod_at (x : Vec Ideal S65536x4096 .fp8e4m3) (w : Vec Ideal S16x4096x3072 .fp8e4m3) (o : ℕ)
    (h : ∀ a, (![o, 0, 0] : Fin 3 → ℕ) a + S1x4096x3072.size a ≤ S16x4096x3072.size a) (r : Fin 65536) (n : Fin 3072) :
    matmul (φ₁ := .fp8e4m3) dot_S65536x4096_S4096x3072_S65536x3072_1_0_0_1_n_n none (View.ld x r0_1 : FVec Ideal S65536x4096 .fp8e4m3)
      (shapeCast S4096x3072 (View.ld w (Rect.unit (s := S16x4096x3072) ![o, 0, 0] S1x4096x3072.size h) : FVec Ideal S1x4096x3072 .fp8e4m3) shapeCasts_S1x4096x3072_S4096x3072 : FVec Ideal S4096x3072 .fp8e4m3)
      (constant S65536x3072 .f32 0x00000000#32 : FVec Ideal S65536x3072 .f32) (ix2 r n)
      = (∑ k : Fin 4096, (x (ix2 r k) : EReal) * w (ix3 ⟨o, expert_lt h⟩ k n) : EReal) := by
  have e0 : View.ld x r0_1 = x := View.ld_unit_zero (S := S65536x4096) (funext fun a => by fin_cases a <;> rfl) _ _
  refine (dot_at _ _ r n).trans (Finset.sum_congr rfl fun k _ => ?_)
  exact congrArg₂ (fun a b : EReal => a * b) (congrFun e0 (ix2 r k)) (expert_ld w o h k n)

theorem scale_at (v : FVec Ideal S1x3072 .f32) (r : Fin 65536) (n : Fin 3072) :
    broadcastTo S65536x3072 (shapeCast S1x3072 v shapeCasts_S1x3072_S1x3072) broadcasts_S1x3072_S65536x3072 (ix2 r n) = v (ix2 0 n) := by
  rw [shapeCast_self]
  exact broadcastTo_apply _ _ _ (ix2 0 n) fun a => by fin_cases a <;> rfl

/-- One expert's row of scales, at a column. -/
theorem row_at (w : Vec Ideal S16x3072 .f32) (o : ℕ) (h : ∀ a, (![o, 0] : Fin 2 → ℕ) a + S1x3072.size a ≤ S16x3072.size a) (r : Fin 65536) (n : Fin 3072) :
    broadcastTo S65536x3072 (shapeCast (s := S1x3072) (α := Ideal .f32) S1x3072 (View.ld w (Rect.unit (s := S16x3072) ![o, 0] S1x3072.size h) : FVec Ideal S1x3072 .f32) shapeCasts_S1x3072_S1x3072) broadcasts_S1x3072_S65536x3072 (ix2 r n)
      = w (ix2 ⟨o, scale_lt h⟩ n) :=
  (scale_at _ r n).trans
    (congrArg w (funext fun a => by
      fin_cases a
      · exact Fin.ext (show o + 1 * 0 = o by omega)
      · exact Fin.ext (show 0 + 1 * n.val = n.val by omega)))

theorem rowScale_at (v : FVec Ideal S65536x1 .f32) (r : Fin 65536) (n : Fin 3072) :
    broadcastTo S65536x3072 (shapeCast S65536x1 v shapeCasts_S65536x1_S65536x1) broadcasts_S65536x1_S65536x3072 (ix2 r n) = v (ix2 r 0) := by
  rw [shapeCast_self]
  exact broadcastTo_apply _ _ _ (ix2 r 0) fun a => by fin_cases a <;> rfl

theorem col_at (v : Vec Ideal S65536x1 .f32) (r : Fin 65536) (n : Fin 3072) :
    broadcastTo S65536x3072 (shapeCast (s := S65536x1) (α := Ideal .f32) S65536x1 (View.ld v r0_0 : FVec Ideal S65536x1 .f32) shapeCasts_S65536x1_S65536x1) broadcasts_S65536x1_S65536x3072 (ix2 r n) = v (ix2 r 0) :=
  (rowScale_at _ r n).trans (congrFun (View.ld_unit_zero (S := S65536x1) (funext fun a => by fin_cases a <;> rfl) _ v) (ix2 r 0))

theorem num_eq (x0 : Vec Ideal S65536x1 .i32) : shapeCast (s := S65536x1) (α := BitVec 32) S65536x1 (View.ld x0 r0_0 : IVec S65536x1 32) shapeCasts_S65536x1_S65536x1 = x0 :=
  (shapeCast_self (View.ld x0 r0_0 : IVec S65536x1 32) _).trans (View.ld_unit_zero (S := S65536x1) (funext fun a => by fin_cases a <;> rfl) _ _)

set_option maxHeartbeats 2000000 in
/-- The step's result at a row whose number names an expert. -/
theorem out_at (x0 : Vec Ideal S65536x1 .i32) (x1 : Vec Ideal S65536x4096 .fp8e4m3) (x2 : Vec Ideal S65536x1 .f32) (x3 : Vec Ideal S16x4096x3072 .fp8e4m3) (x4 : Vec Ideal S16x3072 .f32)
    (r : Fin 65536) (n : Fin 3072) (g : Fin 16) (he : x0 (ix2 r 0) = BitVec.ofNat 32 g.val) :
    out0_5 (F := Ideal) x0 x1 x2 x3 x4 (ix2 r n) = ((∑ k : Fin 4096, (x1 (ix2 r k) : EReal) * x3 (ix3 g k n)) * x2 (ix2 r 0) * x4 (ix2 g n) : EReal) := by
  unfold out0_5
  rw [View.canon_unit_zero (S := S65536x3072) (funext fun a => by fin_cases a <;> rfl)]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23,
    num_eq, truncf_apply, mulf_apply, mask_at, prod_at, row_at, col_at, he]
  rcases g with ⟨g, hg⟩
  interval_cases g
  all_goals first
    | (simp (decide := true) only [if_true, if_false]; done)
    | (simp (decide := true) only [if_true, if_false]; rfl)

end Cert.ReferenceIdeal.Gen

end
-- ==== Proof.ReferenceIdealResult.lean ====
/- The reference's result: each row's number is that of the group holding the row, so the result is the scaled product with that group's weights. -/
module

public import proofs.«01_k».proof.Proof.ReferenceIdealValue
public import Idealize.ShloMosaic.Lib.StableHlo.RunRead
public import Idealize.ShloMosaic.Lib.Tactic.CleanTypes

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Routing Idealize.ShloMosaic.StableHlo Items
open Idealize.ShloMosaic.WordCmp (select_at cmpi_at constantI_at extui_at)

section
variable {F : FTy → Type} [FloatOps F] (W : Valuation τ sig (Elt F)) (s : ℕ → ℕ)

theorem after_two (l k : List (HloOp τ sig (Elt F))) (W : Valuation τ sig (Elt F)) : after (l ++ k) W = after k (after l W) := by
  induction l generalizing W with
  | nil => rfl
  | cons op l ih => exact ih _

/-- The running totals of the groups' sizes. -/
theorem ends_at (hx : ∀ j : Fin 16, (W (Proc.devRef .tc main_arg4) : IVec S16 32) (ValueIdx.ix1 j) = BitVec.ofNat 32 (s j)) (j : Fin 16) :
    (after hostOps0 W (Proc.devRef .tc main_v0) : IVec S16 32) (ValueIdx.ix1 j) = BitVec.ofNat 32 (E s (j+1)) := by
  after_reads_simp; (try simp -implicitDefEqProofs only [StableHlo.TRef.toBuf, StableHlo.TRef.ofBuf, cast_cast, cast_eq]); clean_types; (try simp only [id_eq])
  exact cumsum1 rfl _ s hx _ rfl reduceWindows_S16_S16_w16s1p15_0 h_S_ j

/-- A row's number counts the groups that end at or before it. -/
theorem num_at (h0 : ∀ j : Fin 16, (W (Proc.devRef .tc main_v0) : IVec S16 32) (ValueIdx.ix1 j) = BitVec.ofNat 32 (E s (j+1))) (hE : E s 16 = 65536) (r : Fin 65536) :
    (after hostOps0_1 W (Proc.devRef .tc main_v9) : IVec S65536x1 32) (ValueIdx.ix2 r 0) = BitVec.ofNat 32 (rowGrp s r.val) := by
  after_reads_simp; (try simp -implicitDefEqProofs only [StableHlo.TRef.toBuf, StableHlo.TRef.ofBuf, cast_cast, cast_eq]); clean_types; (try simp only [id_eq])
  refine (bcCol _ _ r).trans ?_
  refine reduce_count (by decide) _ _ _ _ r (fun j => E s (j+1) ≤ r.val) (fun q => ?_)
  have h1 := E_mono s (Nat.succ_le_of_lt q.isLt)
  simp only [Nat.succ_eq_add_one] at h1
  rw [cmpi_at, bcRows, bcCols, iota1_ap, h0 q, cmpi_sge (by have := r.isLt; omega) (by omega), ofBool_one]

theorem col_lines (r : Fin 65536) :
    (after hostOps0_1 W (Proc.devRef .tc main_v10) : Vec F S65536x1 .f32) (ValueIdx.ix2 r 0) = (W (Proc.devRef .tc main_arg1) : Vec F S65536 .f32) (ValueIdx.ix1 r) := by
  after_reads_simp; (try simp -implicitDefEqProofs only [StableHlo.TRef.toBuf, StableHlo.TRef.ofBuf, cast_cast, cast_eq]); clean_types; (try simp only [id_eq])
  exact bcCol _ _ r

theorem keep_arg1 : after hostOps0 W (Proc.devRef .tc main_arg1) = W (Proc.devRef .tc main_arg1) := by
  after_reads_simp

end

variable (m : (ℓ : Loc nD τ sig) → Buf (Elt Ideal) ℓ) (ρ : Dev nD → PrngReg) (c : Dev nD)

abbrev argX : Vec Ideal S65536x4096 .fp8e4m3 := m ((c.tc : Thread nD τ).loc main_arg0)
abbrev argXs : Vec Ideal S65536 .f32 := m ((c.tc : Thread nD τ).loc main_arg1)
abbrev argW : Vec Ideal S16x4096x3072 .fp8e4m3 := m ((c.tc : Thread nD τ).loc main_arg2)
abbrev argWs : Vec Ideal S16x3072 .f32 := m ((c.tc : Thread nD τ).loc main_arg3)
abbrev argN : IVec S16 32 := m ((c.tc : Thread nD τ).loc main_arg4)

theorem blk0_at (t : Fin cfg0.N) (A : Vec Ideal S65536x1 .i32) (a : Fin 65536) (b : Fin 1) :
    ((cfg0.win 0).blk t).view.read (Elt Ideal) A (ValueIdx.ix2 a b) = A (ValueIdx.ix2 a b) := by
  refine congrArg A (funext fun i => Fin.ext ?_)
  fin_cases i
  · show 0 * 65536 + 1 * a.val = a.val
    omega
  · show 0 * 1 + 1 * b.val = b.val
    omega

theorem blk1_at (t : Fin cfg0.N) (A : Vec Ideal S65536x4096 .fp8e4m3) (a : Fin 65536) (b : Fin 4096) :
    ((cfg0.win 1).blk t).view.read (Elt Ideal) A (ValueIdx.ix2 a b) = A (ValueIdx.ix2 a b) := by
  refine congrArg A (funext fun i => Fin.ext ?_)
  fin_cases i
  · show 0 * 65536 + 1 * a.val = a.val
    omega
  · show 0 * 4096 + 1 * b.val = b.val
    omega

theorem blk2_at (t : Fin cfg0.N) (A : Vec Ideal S65536x1 .f32) (a : Fin 65536) (b : Fin 1) :
    ((cfg0.win 2).blk t).view.read (Elt Ideal) A (ValueIdx.ix2 a b) = A (ValueIdx.ix2 a b) := by
  refine congrArg A (funext fun i => Fin.ext ?_)
  fin_cases i
  · show 0 * 65536 + 1 * a.val = a.val
    omega
  · show 0 * 1 + 1 * b.val = b.val
    omega

theorem blk3_at (t : Fin cfg0.N) (A : Vec Ideal S16x4096x3072 .fp8e4m3) (a : Fin 16) (b : Fin 4096) (d : Fin 3072) :
    ((cfg0.win 3).blk t).view.read (Elt Ideal) A (ValueIdx.ix3 a b d) = A (ValueIdx.ix3 a b d) := by
  refine congrArg A (funext fun i => Fin.ext ?_)
  fin_cases i
  · show 0 * 16 + 1 * a.val = a.val
    omega
  · show 0 * 4096 + 1 * b.val = b.val
    omega
  · show 0 * 3072 + 1 * d.val = d.val
    omega

theorem blk4_at (t : Fin cfg0.N) (A : Vec Ideal S16x3072 .f32) (a : Fin 16) (b : Fin 3072) :
    ((cfg0.win 4).blk t).view.read (Elt Ideal) A (ValueIdx.ix2 a b) = A (ValueIdx.ix2 a b) := by
  refine congrArg A (funext fun i => Fin.ext ?_)
  fin_cases i
  · show 0 * 16 + 1 * a.val = a.val
    omega
  · show 0 * 3072 + 1 * b.val = b.val
    omega

theorem blk5_at (t : Fin cfg0.N) (A : Vec Ideal S65536x3072 .bf16) (a : Fin 65536) (b : Fin 3072) :
    ((cfg0.win 5).blk t).view.read (Elt Ideal) A (ValueIdx.ix2 a b) = A (ValueIdx.ix2 a b) := by
  refine congrArg A (funext fun i => Fin.ext ?_)
  fin_cases i
  · show 0 * 65536 + 1 * a.val = a.val
    omega
  · show 0 * 3072 + 1 * b.val = b.val
    omega

section
variable {s : ℕ → ℕ} (hx : ∀ j : Fin 16, argN m c (ValueIdx.ix1 j) = BitVec.ofNat 32 (s j)) (hE : E s 16 = 65536)
include hx hE

theorem V_num (r : Fin 65536) : (V m c main_v9 : IVec S65536x1 32) (ValueIdx.ix2 r 0) = BitVec.ofNat 32 (rowGrp s r.val) := by
  show (after (hostOps0 ++ (hostOps0_1 ++ [])) _ (Proc.devRef .tc main_v9) : IVec S65536x1 32) (ValueIdx.ix2 r 0) = _
  rw [List.append_nil, after_two]
  exact num_at _ s (ends_at _ s hx) hE r

omit hx hE in
theorem V_col (r : Fin 65536) : (V m c main_v10 : Vec Ideal S65536x1 .f32) (ValueIdx.ix2 r 0) = argXs m c (ValueIdx.ix1 r) := by
  show (after (hostOps0 ++ (hostOps0_1 ++ [])) _ (Proc.devRef .tc main_v10) : Vec Ideal S65536x1 .f32) (ValueIdx.ix2 r 0) = _
  rw [List.append_nil, after_two]
  exact (col_lines _ r).trans (congrFun (keep_arg1 _) _)

theorem row_target (t : Fin cfg0.N) (r : Fin 65536) (n : Fin 3072) :
    out0_5 (F := Ideal) (iblk m c 0 t) (iblk m c 1 t) (iblk m c 2 t) (iblk m c 3 t) (iblk m c 4 t) (ValueIdx.ix2 r n)
      = Items.target s hE (argX m c) (argXs m c) (argW m c) (argWs m c) (ValueIdx.ix2 r n) := by
  have h0 : (iblk m c 0 t : Vec Ideal S65536x1 .i32) (ValueIdx.ix2 r 0) = BitVec.ofNat 32 (rowGrp s r.val) :=
    (blk0_at t (V m c main_v9) r 0).trans (V_num m c hx hE r)
  refine (out_at _ _ _ _ _ r n ⟨rowGrp s r.val, rowGrp_lt hE r.isLt⟩ h0).trans ?_
  refine congrArg₂ (fun a b : EReal => a * b) (congrArg₂ (fun a b : EReal => a * b) (Finset.sum_congr rfl fun k _ => congrArg₂ (fun a b : EReal => a * b) ?_ ?_) ?_) ?_
  · exact (blk1_at t (V m c main_arg0) r k).trans (congrFun (V_main_arg0 m c) _)
  · exact (blk3_at t (V m c main_arg2) _ k n).trans (congrFun (V_main_arg2 m c) _)
  · exact (blk2_at t (V m c main_v10) r 0).trans (V_col m c r)
  · exact (blk4_at t (V m c main_arg3) _ n).trans (congrFun (V_main_arg3 m c) _)

omit hx hE in
theorem array_ix (z : S65536x3072.Idx) : ∃ (r : Fin 65536) (n : Fin 3072), z = ValueIdx.ix2 r n := ⟨z 0, z 1, ValueIdx.eq_ix2 z⟩

theorem result : (dats m 0 c).arrAt 5 cfg0.N = Items.target s hE (argX m c) (argXs m c) (argW m c) (argWs m c) := by
  refine Pipeline.Dat.arrAt_eq_of_cover (dats m 0 c) 5 (Items.target s hE (argX m c) (argXs m c) (argW m c) (argWs m c)) (fun t hf => ?_) (fun y => ?_)
  · refine funext fun z => ?_
    rw [Pipeline.Dat.flushed_apply, after0_5]
    obtain ⟨r, n, rfl⟩ := array_ix z
    refine Eq.trans ?_ ((row_target m c hx hE t r n).trans (blk5_at t _ r n).symm)
    refine congrArg (out0_5 (F := Ideal) (iblk m c 0 t) (iblk m c 1 t) (iblk m c 2 t) (iblk m c 3 t) (iblk m c 4 t)) (funext fun a => Fin.ext ?_)
    fin_cases a <;> rfl
  · obtain ⟨r, n, rfl⟩ := array_ix y
    have hN : 0 < cfg0.N := by decide
    refine ⟨⟨0, hN⟩, flush0_5 _, ?_⟩
    have e : ((cfg0.win 5).blk ⟨0, hN⟩).view.emb (ValueIdx.ix2 r n) = (ValueIdx.ix2 r n : S65536x3072.Idx) := by
      refine funext fun i => Fin.ext ?_
      fin_cases i
      · show 0 * 65536 + 1 * r.val = r.val
        omega
      · show 0 * 3072 + 1 * n.val = n.val
        omega
    have h := View.emb_mem_set ((cfg0.win 5).blk ⟨0, hN⟩).view (ValueIdx.ix2 r n)
    rw [e] at h
    exact h

end

/-- Every run ends with the result at `target` of the arguments, for sizes that add up to the rows, and the arguments as they were. -/
theorem value {s : ℕ → ℕ} (hx : ∀ c : Dev nD, ∀ j : Fin 16, argN m c (ValueIdx.ix1 j) = BitVec.ofNat 32 (s j)) (hE : E s 16 = 65536) :
    θ_run (defs (F := Ideal)) (onTc (main (F := Ideal))) ⟨m, fun _ => 0, ρ⟩
    (fun r => ∀ c : Dev nD, r.2.mem ((c.tc : Thread nD τ).loc main_v11) = Items.target s hE (argX m c) (argXs m c) (argW m c) (argWs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c => ⟨((h c).1 5).trans (result m c (hx c) hE),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩) (run_main m ρ)

end Cert.ReferenceIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_sizes_ok
public import proofs.«01_k».proof.Proof.Sizes
public import proofs.«01_k».proof.Proof.KernelOk
public import proofs.«01_k».proof.Proof.KernelIdealOk
public import proofs.«01_k».proof.Proof.KernelIdealResult
public import proofs.«01_k».proof.Proof.ReferenceIdealResult
public import Idealize.ShloMosaic.Adequacy
public import Idealize.ShloMosaic.Init

@[expose] public section

noncomputable section

namespace Cert.Proof

open Idealize.ShloMosaic Idealize.SL.Sem Cert.Kernel

/-- The kernel and the reference both end at `Items.target` of the arguments they share. -/
theorem algebraic : Cert.algebraic_KernelIdeal_ReferenceIdeal (hKernelIdeal := Cert.KernelIdeal.Gen.facts) (hReferenceIdeal := Cert.ReferenceIdeal.Gen.facts) (hPre_sizes_ok := Cert.Pre_sizes_ok.Gen.facts) := by
  intro m g m' g' hp hm
  have hE : Items.E (Cert.KernelIdeal.Gen.szs m) 16 = 65536 := Items.sizes _ _ _ _ _ (hp 0)
  refine ⟨fun c => Items.target (Cert.KernelIdeal.Gen.szs m) hE (Cert.KernelIdeal.Gen.argX m c) (Cert.KernelIdeal.Gen.argXs m c) (Cert.KernelIdeal.Gen.argW m c) (Cert.KernelIdeal.Gen.argWs m c),
    Cert.KernelIdeal.Gen.value m g hE, ?_⟩
  have hx : ∀ c : Dev Cert.ReferenceIdeal.nD, ∀ j : Fin 16, Cert.ReferenceIdeal.Gen.argN m' c (ValueIdx.ix1 j) = BitVec.ofNat 32 (Cert.KernelIdeal.Gen.szs m j) := fun c j => by
    obtain rfl : c = 0 := Subsingleton.elim _ _
    exact (congrFun (hm 0).2.2.2.2 (ValueIdx.ix1 j)).trans (Items.sizesOf_word _ j)
  refine (θ_run (Cert.ReferenceIdeal.defs (F := Ideal)) _ _).mono (fun r h c => ⟨(h c).1.trans ?_, (h c).2⟩) (Cert.ReferenceIdeal.Gen.value m' g' hx hE)
  have e0 : Cert.ReferenceIdeal.Gen.argX m' c = Cert.KernelIdeal.Gen.argX m c := (hm c).1
  have e1 : Cert.ReferenceIdeal.Gen.argXs m' c = Cert.KernelIdeal.Gen.argXs m c := (hm c).2.1
  have e2 : Cert.ReferenceIdeal.Gen.argW m' c = Cert.KernelIdeal.Gen.argW m c := (hm c).2.2.1
  have e3 : Cert.ReferenceIdeal.Gen.argWs m' c = Cert.KernelIdeal.Gen.argWs m c := (hm c).2.2.2.1
  rw [e0, e1, e2, e3]

theorem claim : Cert.Claim := ⟨Cert.Kernel.Gen.facts, Cert.KernelIdeal.Gen.facts, Cert.ReferenceIdeal.Gen.facts, Cert.Pre_sizes_ok.Gen.facts,
  fun m ρ h => Cert.Kernel.Gen.quiet m ρ (Items.sizes _ _ _ _ _ (h 0)),
  fun m ρ h => Cert.KernelIdeal.Gen.quiet m ρ (Items.sizes _ _ _ _ _ (h 0)),
  fun m ρ _ => Cert.ReferenceIdeal.Gen.frame m ρ,
  trivial, algebraic⟩

end Cert.Proof

end
